-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S8x1024 : Shape := ⟨2, ![8, 1024]⟩
abbrev S4x1024 : Shape := ⟨2, ![4, 1024]⟩
abbrev S8 : Shape := ⟨1, ![8]⟩
abbrev S4 : Shape := ⟨1, ![4]⟩
abbrev S_ : Shape := ⟨0, ![]⟩
abbrev S1024 : Shape := ⟨1, ![1024]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S8x1024, .f32⟩
  | .local _ .vmem, ⟨3, _⟩ => ⟨S4x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .ne v29 c0_i32_11
  let v32 : BitVec 32 := Scalar.extui v31
  let c0_i32_12 : BitVec 32 := 0#32
  let v33 : BitVec 1 := Scalar.cmpi .ne v32 c0_i32_12
  v33

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c0_i32_180 : BitVec 32 := 0#32
  let v217 : BitVec 32 := Scalar.addi v216 c0_i32_180
  v217.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 1 := Scalar.cmpi .ne v29 c1_i32_13
  let v35 : BitVec 32 := Scalar.extui v34
  let c0_i32_14 : BitVec 32 := 0#32
  let v36 : BitVec 1 := Scalar.cmpi .ne v35 c0_i32_14
  v36

def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c1_i32_180 : BitVec 32 := 1#32
  let v217 : BitVec 32 := Scalar.addi v216 c1_i32_180
  v217.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v37 : BitVec 1 := Scalar.cmpi .ne v29 c2_i32
  let v38 : BitVec 32 := Scalar.extui v37
  let c0_i32_15 : BitVec 32 := 0#32
  let v39 : BitVec 1 := Scalar.cmpi .ne v38 c0_i32_15
  v39

def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c2_i32_180 : BitVec 32 := 2#32
  let v217 : BitVec 32 := Scalar.addi v216 c2_i32_180
  v217.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v40 : BitVec 1 := Scalar.cmpi .ne v29 c3_i32
  let v41 : BitVec 32 := Scalar.extui v40
  let c0_i32_16 : BitVec 32 := 0#32
  let v42 : BitVec 1 := Scalar.cmpi .ne v41 c0_i32_16
  v42

def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c3_i32_180 : BitVec 32 := 3#32
  let v217 : BitVec 32 := Scalar.addi v216 c3_i32_180
  v217.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let v43 : BitVec 1 := Scalar.cmpi .ne v29 c4_i32
  let v44 : BitVec 32 := Scalar.extui v43
  let c0_i32_17 : BitVec 32 := 0#32
  let v45 : BitVec 1 := Scalar.cmpi .ne v44 c0_i32_17
  v45

def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c4_i32_180 : BitVec 32 := 4#32
  let v217 : BitVec 32 := Scalar.addi v216 c4_i32_180
  v217.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v46 : BitVec 1 := Scalar.cmpi .ne v29 c5_i32
  let v47 : BitVec 32 := Scalar.extui v46
  let c0_i32_18 : BitVec 32 := 0#32
  let v48 : BitVec 1 := Scalar.cmpi .ne v47 c0_i32_18
  v48

def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c5_i32_180 : BitVec 32 := 5#32
  let v217 : BitVec 32 := Scalar.addi v216 c5_i32_180
  v217.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v49 : BitVec 1 := Scalar.cmpi .ne v29 c6_i32
  let v50 : BitVec 32 := Scalar.extui v49
  let c0_i32_19 : BitVec 32 := 0#32
  let v51 : BitVec 1 := Scalar.cmpi .ne v50 c0_i32_19
  v51

def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c6_i32_180 : BitVec 32 := 6#32
  let v217 : BitVec 32 := Scalar.addi v216 c6_i32_180
  v217.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v52 : BitVec 1 := Scalar.cmpi .ne v29 c7_i32
  let v53 : BitVec 32 := Scalar.extui v52
  let c0_i32_20 : BitVec 32 := 0#32
  let v54 : BitVec 1 := Scalar.cmpi .ne v53 c0_i32_20
  v54

def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_179 : BitVec 32 := 8#32
  let v216 : BitVec 32 := Scalar.muli v19 c8_i32_179
  let c7_i32_180 : BitVec 32 := 7#32
  let v217 : BitVec 32 := Scalar.addi v216 c7_i32_180
  v217.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_21 : BitVec 32 := 0#32
  let v55 : BitVec 1 := Scalar.cmpi .ne v19 c0_i32_21
  let v56 : BitVec 32 := Scalar.extui v55
  let c0_i32_22 : BitVec 32 := 0#32
  let v57 : BitVec 1 := Scalar.cmpi .ne v56 c0_i32_22
  v57

def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi c0_i32_179 v29
  v216.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_23 : BitVec 32 := 1#32
  let v58 : BitVec 1 := Scalar.cmpi .ne v19 c1_i32_23
  let v59 : BitVec 32 := Scalar.extui v58
  let c0_i32_24 : BitVec 32 := 0#32
  let v60 : BitVec 1 := Scalar.cmpi .ne v59 c0_i32_24
  v60

def k0_dev10 (d0 : Dev nD) : Nat :=
  let c8_i32_179 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi c8_i32_179 v29
  v216.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_25 : BitVec 32 := 2#32
  let v61 : BitVec 1 := Scalar.cmpi .ne v19 c2_i32_25
  let v62 : BitVec 32 := Scalar.extui v61
  let c0_i32_26 : BitVec 32 := 0#32
  let v63 : BitVec 1 := Scalar.cmpi .ne v62 c0_i32_26
  v63

def k0_dev11 (d0 : Dev nD) : Nat :=
  let c16_i32_179 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi c16_i32_179 v29
  v216.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v64 : BitVec 1 := Scalar.cmpi .ne v19 c3_i32_27
  let v65 : BitVec 32 := Scalar.extui v64
  let c0_i32_28 : BitVec 32 := 0#32
  let v66 : BitVec 1 := Scalar.cmpi .ne v65 c0_i32_28
  v66

def k0_dev12 (d0 : Dev nD) : Nat :=
  let c24_i32_179 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v216 : BitVec 32 := Scalar.addi c24_i32_179 v29
  v216.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : Index := Scalar.indexCast v29
  let c0_30 : Index := 0#32
  ![v71.toNat, 0]
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_33 : BitVec 32 := 0#32
  let v77 : BitVec 1 := Scalar.cmpi .ne v29 c0_i32_33
  let v78 : BitVec 32 := Scalar.extui v77
  let c0_i32_35 : BitVec 32 := 0#32
  let v79 : BitVec 1 := Scalar.cmpi .ne v78 c0_i32_35
  v79

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_31 : BitVec 32 := 8#32
  let v75 : BitVec 32 := Scalar.muli v19 c8_i32_31
  let c0_i32_32 : BitVec 32 := 0#32
  let v76 : BitVec 32 := Scalar.addi v75 c0_i32_32
  v76.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_38 : BitVec 32 := 1#32
  let v82 : BitVec 1 := Scalar.cmpi .ne v29 c1_i32_38
  let v83 : BitVec 32 := Scalar.extui v82
  let c0_i32_40 : BitVec 32 := 0#32
  let v84 : BitVec 1 := Scalar.cmpi .ne v83 c0_i32_40
  v84

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v80 : BitVec 32 := Scalar.muli v19 c8_i32_36
  let c1_i32_37 : BitVec 32 := 1#32
  let v81 : BitVec 32 := Scalar.addi v80 c1_i32_37
  v81.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_43 : BitVec 32 := 2#32
  let v87 : BitVec 1 := Scalar.cmpi .ne v29 c2_i32_43
  let v88 : BitVec 32 := Scalar.extui v87
  let c0_i32_45 : BitVec 32 := 0#32
  let v89 : BitVec 1 := Scalar.cmpi .ne v88 c0_i32_45
  v89

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_41 : BitVec 32 := 8#32
  let v85 : BitVec 32 := Scalar.muli v19 c8_i32_41
  let c2_i32_42 : BitVec 32 := 2#32
  let v86 : BitVec 32 := Scalar.addi v85 c2_i32_42
  v86.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_48 : BitVec 32 := 3#32
  let v92 : BitVec 1 := Scalar.cmpi .ne v29 c3_i32_48
  let v93 : BitVec 32 := Scalar.extui v92
  let c0_i32_50 : BitVec 32 := 0#32
  let v94 : BitVec 1 := Scalar.cmpi .ne v93 c0_i32_50
  v94

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_46 : BitVec 32 := 8#32
  let v90 : BitVec 32 := Scalar.muli v19 c8_i32_46
  let c3_i32_47 : BitVec 32 := 3#32
  let v91 : BitVec 32 := Scalar.addi v90 c3_i32_47
  v91.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_53 : BitVec 32 := 4#32
  let v97 : BitVec 1 := Scalar.cmpi .ne v29 c4_i32_53
  let v98 : BitVec 32 := Scalar.extui v97
  let c0_i32_55 : BitVec 32 := 0#32
  let v99 : BitVec 1 := Scalar.cmpi .ne v98 c0_i32_55
  v99

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_51 : BitVec 32 := 8#32
  let v95 : BitVec 32 := Scalar.muli v19 c8_i32_51
  let c4_i32_52 : BitVec 32 := 4#32
  let v96 : BitVec 32 := Scalar.addi v95 c4_i32_52
  v96.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_58 : BitVec 32 := 5#32
  let v102 : BitVec 1 := Scalar.cmpi .ne v29 c5_i32_58
  let v103 : BitVec 32 := Scalar.extui v102
  let c0_i32_60 : BitVec 32 := 0#32
  let v104 : BitVec 1 := Scalar.cmpi .ne v103 c0_i32_60
  v104

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v100 : BitVec 32 := Scalar.muli v19 c8_i32_56
  let c5_i32_57 : BitVec 32 := 5#32
  let v101 : BitVec 32 := Scalar.addi v100 c5_i32_57
  v101.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_63 : BitVec 32 := 6#32
  let v107 : BitVec 1 := Scalar.cmpi .ne v29 c6_i32_63
  let v108 : BitVec 32 := Scalar.extui v107
  let c0_i32_65 : BitVec 32 := 0#32
  let v109 : BitVec 1 := Scalar.cmpi .ne v108 c0_i32_65
  v109

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v105 : BitVec 32 := Scalar.muli v19 c8_i32_61
  let c6_i32_62 : BitVec 32 := 6#32
  let v106 : BitVec 32 := Scalar.addi v105 c6_i32_62
  v106.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_68 : BitVec 32 := 7#32
  let v112 : BitVec 1 := Scalar.cmpi .ne v29 c7_i32_68
  let v113 : BitVec 32 := Scalar.extui v112
  let c0_i32_70 : BitVec 32 := 0#32
  let v114 : BitVec 1 := Scalar.cmpi .ne v113 c0_i32_70
  v114

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_179 : BitVec 32 := 0#32
  ![v29.toNat, 0]
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_66 : BitVec 32 := 8#32
  let v110 : BitVec 32 := Scalar.muli v19 c8_i32_66
  let c7_i32_67 : BitVec 32 := 7#32
  let v111 : BitVec 32 := Scalar.addi v110 c7_i32_67
  v111.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v142 : Index := Scalar.indexCast v19
  let c0_106 : Index := 0#32
  ![v142.toNat, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_108 : BitVec 32 := 0#32
  let v147 : BitVec 1 := Scalar.cmpi .ne v19 c0_i32_108
  let v148 : BitVec 32 := Scalar.extui v147
  let c0_i32_110 : BitVec 32 := 0#32
  let v149 : BitVec 1 := Scalar.cmpi .ne v148 c0_i32_110
  v149

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_179 : BitVec 32 := 0#32
  ![v19.toNat, 0]
def k0_dev21 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi c0_i32_107 v29
  v146.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_112 : BitVec 32 := 1#32
  let v151 : BitVec 1 := Scalar.cmpi .ne v19 c1_i32_112
  let v152 : BitVec 32 := Scalar.extui v151
  let c0_i32_114 : BitVec 32 := 0#32
  let v153 : BitVec 1 := Scalar.cmpi .ne v152 c0_i32_114
  v153

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_179 : BitVec 32 := 0#32
  ![v19.toNat, 0]
def k0_dev22 (d0 : Dev nD) : Nat :=
  let c8_i32_111 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v150 : BitVec 32 := Scalar.addi c8_i32_111 v29
  v150.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_115 : BitVec 32 := 2#32
  let v155 : BitVec 1 := Scalar.cmpi .ne v19 c2_i32_115
  let v156 : BitVec 32 := Scalar.extui v155
  let c0_i32_117 : BitVec 32 := 0#32
  let v157 : BitVec 1 := Scalar.cmpi .ne v156 c0_i32_117
  v157

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_179 : BitVec 32 := 0#32
  ![v19.toNat, 0]
def k0_dev23 (d0 : Dev nD) : Nat :=
  let c16_i32 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v154 : BitVec 32 := Scalar.addi c16_i32 v29
  v154.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_118 : BitVec 32 := 3#32
  let v159 : BitVec 1 := Scalar.cmpi .ne v19 c3_i32_118
  let v160 : BitVec 32 := Scalar.extui v159
  let c0_i32_120 : BitVec 32 := 0#32
  let v161 : BitVec 1 := Scalar.cmpi .ne v160 c0_i32_120
  v161

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_179 : BitVec 32 := 0#32
  ![v19.toNat, 0]
def k0_dev24 (d0 : Dev nD) : Nat :=
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v158 : BitVec 32 := Scalar.addi c24_i32 v29
  v158.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_143 : BitVec 32 := 0#32
  let v180 : BitVec 1 := Scalar.cmpi .ne v29 c0_i32_143
  let v181 : BitVec 32 := Scalar.extui v180
  let c0_i32_145 : BitVec 32 := 0#32
  let v182 : BitVec 1 := Scalar.cmpi .ne v181 c0_i32_145
  v182

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_146 : BitVec 32 := 1#32
  let v183 : BitVec 1 := Scalar.cmpi .ne v29 c1_i32_146
  let v184 : BitVec 32 := Scalar.extui v183
  let c0_i32_148 : BitVec 32 := 0#32
  let v185 : BitVec 1 := Scalar.cmpi .ne v184 c0_i32_148
  v185

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_149 : BitVec 32 := 2#32
  let v186 : BitVec 1 := Scalar.cmpi .ne v29 c2_i32_149
  let v187 : BitVec 32 := Scalar.extui v186
  let c0_i32_151 : BitVec 32 := 0#32
  let v188 : BitVec 1 := Scalar.cmpi .ne v187 c0_i32_151
  v188

def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_152 : BitVec 32 := 3#32
  let v189 : BitVec 1 := Scalar.cmpi .ne v29 c3_i32_152
  let v190 : BitVec 32 := Scalar.extui v189
  let c0_i32_154 : BitVec 32 := 0#32
  let v191 : BitVec 1 := Scalar.cmpi .ne v190 c0_i32_154
  v191

def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_155 : BitVec 32 := 4#32
  let v192 : BitVec 1 := Scalar.cmpi .ne v29 c4_i32_155
  let v193 : BitVec 32 := Scalar.extui v192
  let c0_i32_157 : BitVec 32 := 0#32
  let v194 : BitVec 1 := Scalar.cmpi .ne v193 c0_i32_157
  v194

def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_158 : BitVec 32 := 5#32
  let v195 : BitVec 1 := Scalar.cmpi .ne v29 c5_i32_158
  let v196 : BitVec 32 := Scalar.extui v195
  let c0_i32_160 : BitVec 32 := 0#32
  let v197 : BitVec 1 := Scalar.cmpi .ne v196 c0_i32_160
  v197

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_161 : BitVec 32 := 6#32
  let v198 : BitVec 1 := Scalar.cmpi .ne v29 c6_i32_161
  let v199 : BitVec 32 := Scalar.extui v198
  let c0_i32_163 : BitVec 32 := 0#32
  let v200 : BitVec 1 := Scalar.cmpi .ne v199 c0_i32_163
  v200

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_164 : BitVec 32 := 7#32
  let v201 : BitVec 1 := Scalar.cmpi .ne v29 c7_i32_164
  let v202 : BitVec 32 := Scalar.extui v201
  let c0_i32_166 : BitVec 32 := 0#32
  let v203 : BitVec 1 := Scalar.cmpi .ne v202 c0_i32_166
  v203

def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_180 : BitVec 32 := 0#32
  ![v29.toNat, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_167 : BitVec 32 := 0#32
  let v204 : BitVec 1 := Scalar.cmpi .ne v19 c0_i32_167
  let v205 : BitVec 32 := Scalar.extui v204
  let c0_i32_169 : BitVec 32 := 0#32
  let v206 : BitVec 1 := Scalar.cmpi .ne v205 c0_i32_169
  v206

def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_180 : BitVec 32 := 0#32
  ![v19.toNat, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_170 : BitVec 32 := 1#32
  let v207 : BitVec 1 := Scalar.cmpi .ne v19 c1_i32_170
  let v208 : BitVec 32 := Scalar.extui v207
  let c0_i32_172 : BitVec 32 := 0#32
  let v209 : BitVec 1 := Scalar.cmpi .ne v208 c0_i32_172
  v209

def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_180 : BitVec 32 := 0#32
  ![v19.toNat, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_173 : BitVec 32 := 2#32
  let v210 : BitVec 1 := Scalar.cmpi .ne v19 c2_i32_173
  let v211 : BitVec 32 := Scalar.extui v210
  let c0_i32_175 : BitVec 32 := 0#32
  let v212 : BitVec 1 := Scalar.cmpi .ne v211 c0_i32_175
  v212

def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_180 : BitVec 32 := 0#32
  ![v19.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_176 : BitVec 32 := 3#32
  let v213 : BitVec 1 := Scalar.cmpi .ne v19 c3_i32_176
  let v214 : BitVec 32 := Scalar.extui v213
  let c0_i32_178 : BitVec 32 := 0#32
  let v215 : BitVec 1 := Scalar.cmpi .ne v214 c0_i32_178
  v215

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_180 : BitVec 32 := 0#32
  ![v19.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mesh.lean ====
/-
The mesh and the exchange pattern of the kernel.

The thirty-two devices form four planes of eight: device `c = 8 * z + s` is number `s` of plane `z`.
A device exchanges rows with the eight devices of its plane (exchange numbers 0..7, one per `s`) and
with the four devices of its line (exchange numbers 8..11, one per `z`).  `peer c j` is the device at
the other end of exchange `j` of device `c`, `bk c j` the number of that exchange at the other end.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.MeanProof

open Cert.KernelIdeal Cert.KernelIdeal.Gen
open Idealize.ShloMosaic
open Idealize.ShloMosaic.TcCoe

/-! ## Devices and exchanges -/

/-- The device at the other end of exchange `j` of device `c`. -/
def peer (c : Dev nD) (j : Fin 12) : Dev nD :=
  if j.val < 8 then ⟨(8 * (c.val / 8) + j.val) % 32, Nat.mod_lt _ (by decide)⟩
  else ⟨(8 * (j.val - 8) + c.val % 8) % 32, Nat.mod_lt _ (by decide)⟩

/-- The number, at the other end, of exchange `j` of device `c`. -/
def bk (c : Dev nD) (j : Fin 12) : Fin 12 :=
  if j.val < 8 then ⟨(c.val % 8) % 12, Nat.mod_lt _ (by decide)⟩
  else ⟨(8 + c.val / 8) % 12, Nat.mod_lt _ (by decide)⟩

/-- Exchange number of plane position `t`, and of plane `w`. -/
def aj (t : Fin 8) : Fin 12 := ⟨t.val, by omega⟩
/-- The exchange with plane number `w`. -/
def zj (w : Fin 4) : Fin 12 := ⟨8 + w.val, by omega⟩

/-- A device's own position in its plane, and its plane. -/
def sOf (c : Dev nD) : Fin 8 := ⟨c.val % 8, Nat.mod_lt _ (by decide)⟩
/-- A device's plane number, which is its position in its line. -/
def zOf (c : Dev nD) : Fin 4 := ⟨(c.val / 8) % 4, Nat.mod_lt _ (by decide)⟩

/-- The other end's other end is the device itself. -/
theorem peer_back : ∀ (c : Dev nD) (j : Fin 12), peer (peer c j) (bk c j) = c := by decide +kernel
/-- Seen twice from the other end, an exchange has its own number. -/
theorem bk_back : ∀ (c : Dev nD) (j : Fin 12), bk (peer c j) (bk c j) = j := by decide +kernel
/-- An exchange of a device with itself is one from either end. -/
theorem own_back : ∀ (c : Dev nD) (j : Fin 12), (peer (peer c j) (bk c j) = peer c j) ↔ (peer c j = c) := by
  decide +kernel
/-- The exchange numbered `bk c j` of device `c` is the one with itself. -/
theorem own_bk : ∀ (c : Dev nD) (j : Fin 12), peer c (bk c j) = c := by decide +kernel
/-- A plane's exchange is a plane's from the other end too, and a line's a line's. -/
theorem bk_lt : ∀ (c : Dev nD) (j : Fin 12), (bk c j).val < 8 ↔ j.val < 8 := by decide +kernel
/-- From the other end a plane's exchange has the device's own position. -/
theorem bk_aj : ∀ (c : Dev nD) (t : Fin 8), bk c (aj t) = aj (sOf c) := by decide +kernel
/-- From the other end a line's exchange has the device's own plane. -/
theorem bk_zj : ∀ (c : Dev nD) (w : Fin 4), bk c (zj w) = zj (zOf c) := by decide +kernel
/-- In its plane a device meets itself at its own position. -/
theorem own_aj : ∀ (c : Dev nD) (t : Fin 8), peer c (aj t) = c ↔ t = sOf c := by decide +kernel
/-- In its line a device meets itself at its own plane. -/
theorem own_zj : ∀ (c : Dev nD) (w : Fin 4), peer c (zj w) = c ↔ w = zOf c := by decide +kernel
/-- The devices of a plane see the same plane, those of a line the same line. -/
theorem plane_same : ∀ (c : Dev nD) (t u : Fin 8), peer (peer c (aj t)) (aj u) = peer c (aj u) := by decide +kernel
/-- The devices of a line have the same line. -/
theorem line_same : ∀ (c : Dev nD) (w v : Fin 4), peer (peer c (zj w)) (zj v) = peer c (zj v) := by decide +kernel

/-- Walking an exchange to its other end: an involution of the pairs (device, exchange). -/
def exch : Dev nD × Fin 12 ≃ Dev nD × Fin 12 where
  toFun p := (peer p.1 p.2, bk p.1 p.2)
  invFun p := (peer p.1 p.2, bk p.1 p.2)
  left_inv p := Prod.ext (peer_back p.1 p.2) (bk_back p.1 p.2)
  right_inv p := Prod.ext (peer_back p.1 p.2) (bk_back p.1 p.2)

/-- Each device is signalled by ten others. -/
theorem ten : ∀ c : Dev nD, (Finset.univ.filter fun j : Fin 12 => peer c j ≠ c).card = 10 := by decide +kernel

/-! ## The words the kernel computes -/

/-- The position word and the plane word of a device, as the first part of the kernel computes them. -/
def sW (c : Dev nD) : BitVec 32 :=
  let v2 : BitVec 32 := Scalar.remsi (Scalar.divsi (Dev.word c) 1#32) 32#32
  let v21 : BitVec 32 := Scalar.select (Scalar.cmpi .eq 8#32 0#32) 1#32 8#32
  let v22 : BitVec 32 := Scalar.remsi v2 v21
  Scalar.select (Scalar.andi (Scalar.xori (Scalar.cmpi .slt v22 0#32) (Scalar.cmpi .slt v21 0#32)) (Scalar.cmpi .ne v22 0#32))
    (Scalar.addi v22 v21) v22

/-- The word the kernel computes for its plane. -/
def zW (c : Dev nD) : BitVec 32 :=
  let v2 : BitVec 32 := Scalar.remsi (Scalar.divsi (Dev.word c) 1#32) 32#32
  let v3 : BitVec 32 := Scalar.divsi v2 8#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 8#32 0#32)) (Scalar.extui (Scalar.cmpi .slt 8#32 0#32))
  Scalar.select (Scalar.andi (Scalar.cmpi .ne v8 v13) (Scalar.cmpi .ne (Scalar.remsi v2 8#32) 0#32)) (Scalar.subi v3 1#32) v3

/-- The test `word ≠ k`, as the kernel spells it. -/
abbrev ncw (w k : BitVec 32) : BitVec 1 := Scalar.cmpi .ne (Scalar.extui (Scalar.cmpi .ne w k) : BitVec 32) 0#32

theorem sW_0 : ∀ c : Dev nD, ncw (sW c) 0#32 = 1#1 ↔ peer c 0 ≠ c := by decide +kernel
theorem sW_1 : ∀ c : Dev nD, ncw (sW c) 1#32 = 1#1 ↔ peer c 1 ≠ c := by decide +kernel
theorem sW_2 : ∀ c : Dev nD, ncw (sW c) 2#32 = 1#1 ↔ peer c 2 ≠ c := by decide +kernel
theorem sW_3 : ∀ c : Dev nD, ncw (sW c) 3#32 = 1#1 ↔ peer c 3 ≠ c := by decide +kernel
theorem sW_4 : ∀ c : Dev nD, ncw (sW c) 4#32 = 1#1 ↔ peer c 4 ≠ c := by decide +kernel
theorem sW_5 : ∀ c : Dev nD, ncw (sW c) 5#32 = 1#1 ↔ peer c 5 ≠ c := by decide +kernel
theorem sW_6 : ∀ c : Dev nD, ncw (sW c) 6#32 = 1#1 ↔ peer c 6 ≠ c := by decide +kernel
theorem sW_7 : ∀ c : Dev nD, ncw (sW c) 7#32 = 1#1 ↔ peer c 7 ≠ c := by decide +kernel
theorem zW_0 : ∀ c : Dev nD, ncw (zW c) 0#32 = 1#1 ↔ peer c 8 ≠ c := by decide +kernel
theorem zW_1 : ∀ c : Dev nD, ncw (zW c) 1#32 = 1#1 ↔ peer c 9 ≠ c := by decide +kernel
theorem zW_2 : ∀ c : Dev nD, ncw (zW c) 2#32 = 1#1 ↔ peer c 10 ≠ c := by decide +kernel
theorem zW_3 : ∀ c : Dev nD, ncw (zW c) 3#32 = 1#1 ↔ peer c 11 ≠ c := by decide +kernel

/-! The conditions of the kernel's branches: the other end of the exchange is another device. -/

theorem cond1 : ∀ c : Dev nD, k0_cond1 c = 1#1 ↔ peer c 0 ≠ c := by decide +kernel
theorem cond2 : ∀ c : Dev nD, k0_cond2 c = 1#1 ↔ peer c 1 ≠ c := by decide +kernel
theorem cond3 : ∀ c : Dev nD, k0_cond3 c = 1#1 ↔ peer c 2 ≠ c := by decide +kernel
theorem cond4 : ∀ c : Dev nD, k0_cond4 c = 1#1 ↔ peer c 3 ≠ c := by decide +kernel
theorem cond5 : ∀ c : Dev nD, k0_cond5 c = 1#1 ↔ peer c 4 ≠ c := by decide +kernel
theorem cond6 : ∀ c : Dev nD, k0_cond6 c = 1#1 ↔ peer c 5 ≠ c := by decide +kernel
theorem cond7 : ∀ c : Dev nD, k0_cond7 c = 1#1 ↔ peer c 6 ≠ c := by decide +kernel
theorem cond8 : ∀ c : Dev nD, k0_cond8 c = 1#1 ↔ peer c 7 ≠ c := by decide +kernel
theorem cond9 : ∀ c : Dev nD, k0_cond9 c = 1#1 ↔ peer c 8 ≠ c := by decide +kernel
theorem cond10 : ∀ c : Dev nD, k0_cond10 c = 1#1 ↔ peer c 9 ≠ c := by decide +kernel
theorem cond11 : ∀ c : Dev nD, k0_cond11 c = 1#1 ↔ peer c 10 ≠ c := by decide +kernel
theorem cond12 : ∀ c : Dev nD, k0_cond12 c = 1#1 ↔ peer c 11 ≠ c := by decide +kernel
theorem cond13 : ∀ c : Dev nD, k0_cond13 c = 1#1 ↔ peer c 0 ≠ c := by decide +kernel
theorem cond14 : ∀ c : Dev nD, k0_cond14 c = 1#1 ↔ peer c 1 ≠ c := by decide +kernel
theorem cond15 : ∀ c : Dev nD, k0_cond15 c = 1#1 ↔ peer c 2 ≠ c := by decide +kernel
theorem cond16 : ∀ c : Dev nD, k0_cond16 c = 1#1 ↔ peer c 3 ≠ c := by decide +kernel
theorem cond17 : ∀ c : Dev nD, k0_cond17 c = 1#1 ↔ peer c 4 ≠ c := by decide +kernel
theorem cond18 : ∀ c : Dev nD, k0_cond18 c = 1#1 ↔ peer c 5 ≠ c := by decide +kernel
theorem cond19 : ∀ c : Dev nD, k0_cond19 c = 1#1 ↔ peer c 6 ≠ c := by decide +kernel
theorem cond20 : ∀ c : Dev nD, k0_cond20 c = 1#1 ↔ peer c 7 ≠ c := by decide +kernel
theorem cond29 : ∀ c : Dev nD, k0_cond29 c = 1#1 ↔ peer c 8 ≠ c := by decide +kernel
theorem cond30 : ∀ c : Dev nD, k0_cond30 c = 1#1 ↔ peer c 9 ≠ c := by decide +kernel
theorem cond31 : ∀ c : Dev nD, k0_cond31 c = 1#1 ↔ peer c 10 ≠ c := by decide +kernel
theorem cond32 : ∀ c : Dev nD, k0_cond32 c = 1#1 ↔ peer c 11 ≠ c := by decide +kernel
theorem cond37 : ∀ c : Dev nD, k0_cond37 c = 1#1 ↔ peer c 0 ≠ c := by decide +kernel
theorem cond38 : ∀ c : Dev nD, k0_cond38 c = 1#1 ↔ peer c 1 ≠ c := by decide +kernel
theorem cond39 : ∀ c : Dev nD, k0_cond39 c = 1#1 ↔ peer c 2 ≠ c := by decide +kernel
theorem cond40 : ∀ c : Dev nD, k0_cond40 c = 1#1 ↔ peer c 3 ≠ c := by decide +kernel
theorem cond41 : ∀ c : Dev nD, k0_cond41 c = 1#1 ↔ peer c 4 ≠ c := by decide +kernel
theorem cond42 : ∀ c : Dev nD, k0_cond42 c = 1#1 ↔ peer c 5 ≠ c := by decide +kernel
theorem cond43 : ∀ c : Dev nD, k0_cond43 c = 1#1 ↔ peer c 6 ≠ c := by decide +kernel
theorem cond44 : ∀ c : Dev nD, k0_cond44 c = 1#1 ↔ peer c 7 ≠ c := by decide +kernel
theorem cond45 : ∀ c : Dev nD, k0_cond45 c = 1#1 ↔ peer c 8 ≠ c := by decide +kernel
theorem cond46 : ∀ c : Dev nD, k0_cond46 c = 1#1 ↔ peer c 9 ≠ c := by decide +kernel
theorem cond47 : ∀ c : Dev nD, k0_cond47 c = 1#1 ↔ peer c 10 ≠ c := by decide +kernel
theorem cond48 : ∀ c : Dev nD, k0_cond48 c = 1#1 ↔ peer c 11 ≠ c := by decide +kernel

/-! The devices the kernel addresses. -/

theorem dev1 : ∀ c : Dev nD, k0_dev1 c = (peer c 0).val := by decide +kernel
theorem dev2 : ∀ c : Dev nD, k0_dev2 c = (peer c 1).val := by decide +kernel
theorem dev3 : ∀ c : Dev nD, k0_dev3 c = (peer c 2).val := by decide +kernel
theorem dev4 : ∀ c : Dev nD, k0_dev4 c = (peer c 3).val := by decide +kernel
theorem dev5 : ∀ c : Dev nD, k0_dev5 c = (peer c 4).val := by decide +kernel
theorem dev6 : ∀ c : Dev nD, k0_dev6 c = (peer c 5).val := by decide +kernel
theorem dev7 : ∀ c : Dev nD, k0_dev7 c = (peer c 6).val := by decide +kernel
theorem dev8 : ∀ c : Dev nD, k0_dev8 c = (peer c 7).val := by decide +kernel
theorem dev9 : ∀ c : Dev nD, k0_dev9 c = (peer c 8).val := by decide +kernel
theorem dev10 : ∀ c : Dev nD, k0_dev10 c = (peer c 9).val := by decide +kernel
theorem dev11 : ∀ c : Dev nD, k0_dev11 c = (peer c 10).val := by decide +kernel
theorem dev12 : ∀ c : Dev nD, k0_dev12 c = (peer c 11).val := by decide +kernel
theorem dev13 : ∀ c : Dev nD, k0_dev13 c = (peer c 0).val := by decide +kernel
theorem dev14 : ∀ c : Dev nD, k0_dev14 c = (peer c 1).val := by decide +kernel
theorem dev15 : ∀ c : Dev nD, k0_dev15 c = (peer c 2).val := by decide +kernel
theorem dev16 : ∀ c : Dev nD, k0_dev16 c = (peer c 3).val := by decide +kernel
theorem dev17 : ∀ c : Dev nD, k0_dev17 c = (peer c 4).val := by decide +kernel
theorem dev18 : ∀ c : Dev nD, k0_dev18 c = (peer c 5).val := by decide +kernel
theorem dev19 : ∀ c : Dev nD, k0_dev19 c = (peer c 6).val := by decide +kernel
theorem dev20 : ∀ c : Dev nD, k0_dev20 c = (peer c 7).val := by decide +kernel
theorem dev21 : ∀ c : Dev nD, k0_dev21 c = (peer c 8).val := by decide +kernel
theorem dev22 : ∀ c : Dev nD, k0_dev22 c = (peer c 9).val := by decide +kernel
theorem dev23 : ∀ c : Dev nD, k0_dev23 c = (peer c 10).val := by decide +kernel
theorem dev24 : ∀ c : Dev nD, k0_dev24 c = (peer c 11).val := by decide +kernel

/-! The offsets the kernel computes: its own position in its plane, or its plane. -/

theorem off1 : ∀ c : Dev nD, k0_off1 c = ![(sOf c).val, 0] := by decide +kernel
theorem off2 : ∀ c : Dev nD, k0_off2 c = ![(sOf c).val] := by decide +kernel
theorem off3 : ∀ c : Dev nD, k0_off3 c = ![(sOf c).val, 0] := by decide +kernel
theorem off4 : ∀ c : Dev nD, k0_off4 c = ![(sOf c).val] := by decide +kernel
theorem off5 : ∀ c : Dev nD, k0_off5 c = ![(sOf c).val, 0] := by decide +kernel
theorem off6 : ∀ c : Dev nD, k0_off6 c = ![(sOf c).val] := by decide +kernel
theorem off7 : ∀ c : Dev nD, k0_off7 c = ![(sOf c).val, 0] := by decide +kernel
theorem off8 : ∀ c : Dev nD, k0_off8 c = ![(sOf c).val] := by decide +kernel
theorem off9 : ∀ c : Dev nD, k0_off9 c = ![(sOf c).val, 0] := by decide +kernel
theorem off10 : ∀ c : Dev nD, k0_off10 c = ![(sOf c).val] := by decide +kernel
theorem off11 : ∀ c : Dev nD, k0_off11 c = ![(sOf c).val, 0] := by decide +kernel
theorem off12 : ∀ c : Dev nD, k0_off12 c = ![(sOf c).val] := by decide +kernel
theorem off13 : ∀ c : Dev nD, k0_off13 c = ![(sOf c).val, 0] := by decide +kernel
theorem off14 : ∀ c : Dev nD, k0_off14 c = ![(sOf c).val] := by decide +kernel
theorem off15 : ∀ c : Dev nD, k0_off15 c = ![(sOf c).val, 0] := by decide +kernel
theorem off16 : ∀ c : Dev nD, k0_off16 c = ![(sOf c).val] := by decide +kernel
theorem off17 : ∀ c : Dev nD, k0_off17 c = ![(sOf c).val, 0] := by decide +kernel
theorem off18 : ∀ c : Dev nD, k0_off18 c = ![(zOf c).val, 0] := by decide +kernel
theorem off19 : ∀ c : Dev nD, k0_off19 c = ![(zOf c).val] := by decide +kernel
theorem off20 : ∀ c : Dev nD, k0_off20 c = ![(zOf c).val, 0] := by decide +kernel
theorem off21 : ∀ c : Dev nD, k0_off21 c = ![(zOf c).val] := by decide +kernel
theorem off22 : ∀ c : Dev nD, k0_off22 c = ![(zOf c).val, 0] := by decide +kernel
theorem off23 : ∀ c : Dev nD, k0_off23 c = ![(zOf c).val] := by decide +kernel
theorem off24 : ∀ c : Dev nD, k0_off24 c = ![(zOf c).val, 0] := by decide +kernel
theorem off25 : ∀ c : Dev nD, k0_off25 c = ![(zOf c).val] := by decide +kernel
theorem off26 : ∀ c : Dev nD, k0_off26 c = ![(zOf c).val, 0] := by decide +kernel
theorem off27 : ∀ c : Dev nD, k0_off27 c = ![(sOf c).val, 0] := by decide +kernel
theorem off28 : ∀ c : Dev nD, k0_off28 c = ![(sOf c).val, 0] := by decide +kernel
theorem off29 : ∀ c : Dev nD, k0_off29 c = ![(sOf c).val, 0] := by decide +kernel
theorem off30 : ∀ c : Dev nD, k0_off30 c = ![(sOf c).val, 0] := by decide +kernel
theorem off31 : ∀ c : Dev nD, k0_off31 c = ![(sOf c).val, 0] := by decide +kernel
theorem off32 : ∀ c : Dev nD, k0_off32 c = ![(sOf c).val, 0] := by decide +kernel
theorem off33 : ∀ c : Dev nD, k0_off33 c = ![(sOf c).val, 0] := by decide +kernel
theorem off34 : ∀ c : Dev nD, k0_off34 c = ![(sOf c).val, 0] := by decide +kernel
theorem off35 : ∀ c : Dev nD, k0_off35 c = ![(zOf c).val, 0] := by decide +kernel
theorem off36 : ∀ c : Dev nD, k0_off36 c = ![(zOf c).val, 0] := by decide +kernel
theorem off37 : ∀ c : Dev nD, k0_off37 c = ![(zOf c).val, 0] := by decide +kernel
theorem off38 : ∀ c : Dev nD, k0_off38 c = ![(zOf c).val, 0] := by decide +kernel

/-! ## Semaphores -/

/-- The barrier semaphore. -/
abbrev barS : Sem sig := (SemArray.scalar (sig.barrier 0 rfl) : Sems sig S_).sem

/-- The semaphores of exchange `j`: the one counting the sent row, and the one counting the received row. -/
def sendSem (j : Fin 12) : DmaSem sig := if j.val < 8 then ⟨(2 + j.val) % 26, Nat.mod_lt _ (by decide)⟩ else ⟨(10 + j.val) % 26, Nat.mod_lt _ (by decide)⟩
/-- The semaphore on which exchange `j`'s row arrives. -/
def recvSem (j : Fin 12) : DmaSem sig := if j.val < 8 then ⟨(10 + j.val) % 26, Nat.mod_lt _ (by decide)⟩ else ⟨(14 + j.val) % 26, Nat.mod_lt _ (by decide)⟩

/-- A single semaphore lies within an array of eight. -/
theorem inb8 (t : Fin 8) : ∀ a, (![t.val] : Fin 1 → Nat) a + S1.size a ≤ S8.size a := by revert t; decide
/-- A single semaphore lies within an array of four. -/
theorem inb4 (w : Fin 4) : ∀ a, (![w.val] : Fin 1 → Nat) a + S1.size a ≤ S4.size a := by revert w; decide

/-- Element `t` of the first semaphore array counts the plane's sends. -/
theorem sem_a_send : ∀ t : Fin 8, (((cc0_scratch2 : DmaSems sig S8).slice (Rect.unit (s := S8) ![t.val] S1.size (inb8 t))).squeeze S_ squeezes_S1_S_).sem = sendSem (aj t) := by decide +kernel
/-- Element `t` of the second semaphore array counts the plane's arrivals. -/
theorem sem_a_recv : ∀ t : Fin 8, (((cc0_scratch3 : DmaSems sig S8).slice (Rect.unit (s := S8) ![t.val] S1.size (inb8 t))).squeeze S_ squeezes_S1_S_).sem = recvSem (aj t) := by decide +kernel
/-- Element `w` of the third semaphore array counts the line's sends. -/
theorem sem_z_send : ∀ w : Fin 4, (((cc0_scratch4 : DmaSems sig S4).slice (Rect.unit (s := S4) ![w.val] S1.size (inb4 w))).squeeze S_ squeezes_S1_S_).sem = sendSem (zj w) := by decide +kernel
/-- Element `w` of the fourth semaphore array counts the line's arrivals. -/
theorem sem_z_recv : ∀ w : Fin 4, (((cc0_scratch5 : DmaSems sig S4).slice (Rect.unit (s := S4) ![w.val] S1.size (inb4 w))).squeeze S_ squeezes_S1_S_).sem = recvSem (zj w) := by decide +kernel

/-- A device's barrier semaphore. -/
abbrev barCell (c : Dev nD) : GSem nD τ sig := ((c : Thread nD τ), .reg barS)
/-- A device's send semaphore of an exchange. -/
abbrev sendCell (c : Dev nD) (j : Fin 12) : GSem nD τ sig := ((c : Thread nD τ), .dma (sendSem j))
/-- A device's receive semaphore of an exchange. -/
abbrev recvCell (c : Dev nD) (j : Fin 12) : GSem nD τ sig := ((c : Thread nD τ), .dma (recvSem j))

/-- The kernel's own semaphores (twelve sends, twelve receives), and all it uses: those and the barrier. -/
abbrev OI : Type := Fin 12 ⊕ Fin 12
/-- The names of a device's semaphores: the barrier's, the sends' and the arrivals'. -/
abbrev CI : Type := Unit ⊕ OI
/-- The kernel's own semaphore under a name. -/
abbrev osem : OI → SemLoc sig := fun | .inl j => .dma (sendSem j) | .inr j => .dma (recvSem j)
/-- The semaphore under a name, the barrier's included. -/
abbrev csem : CI → SemLoc sig := fun | .inl _ => .reg barS | .inr k => osem k
/-- A device's semaphore under a name. -/
abbrev kcell (ck : Dev nD × CI) : GSem nD τ sig := ((ck.1 : Thread nD τ), csem ck.2)

/-- Different names are different semaphores. -/
theorem csem_injective : Function.Injective csem := by decide +kernel
/-- Different exchanges have different send semaphores. -/
theorem send_inj : ∀ i j : Fin 12, sendSem i = sendSem j → i = j := by decide +kernel
/-- Different exchanges have different receive semaphores. -/
theorem recv_inj : ∀ i j : Fin 12, recvSem i = recvSem j → i = j := by decide +kernel
/-- No send semaphore is a receive semaphore. -/
theorem send_ne_recv : ∀ i j : Fin 12, sendSem i ≠ recvSem j := by decide +kernel

/-! ## The two gather buffers, row by row -/

/-- The plane's gather buffer. -/
abbrev aM : Memref sig .tc .vmem S8x1024 .f32 := Memref.whole cc0_scratch0
/-- The line's gather buffer. -/
abbrev zM : Memref sig .tc .vmem S4x1024 .f32 := Memref.whole cc0_scratch1
/-- The staged argument. -/
abbrev xM : Memref sig .tc .vmem S2048x1024 .f32 := Memref.whole cc0_stg0_0
/-- The staged result. -/
abbrev oM : Memref sig .tc .vmem S1x1024 .f32 := Memref.whole cc0_stg1_0

/-- A row lies within the plane's buffer. -/
theorem inbA (t : Fin 8) : ∀ a, (![t.val, 0] : Fin 2 → Nat) a + S1x1024.size a ≤ S8x1024.size a := by revert t; decide
/-- A row lies within the line's buffer. -/
theorem inbZ (w : Fin 4) : ∀ a, (![w.val, 0] : Fin 2 → Nat) a + S1x1024.size a ≤ S4x1024.size a := by revert w; decide

/-- Row `t` of the plane's buffer, as a rectangle. -/
abbrev aRect (t : Fin 8) : Rect S8x1024 := Rect.unit (s := S8x1024) ![t.val, 0] S1x1024.size (inbA t)
/-- Row `w` of the line's buffer, as a rectangle. -/
abbrev zRect (w : Fin 4) : Rect S4x1024 := Rect.unit (s := S4x1024) ![w.val, 0] S1x1024.size (inbZ w)
/-- Row `t` of the plane's buffer, as a reference. -/
abbrev aRow (t : Fin 8) : Memref sig .tc .vmem S1x1024 .f32 := aM.slice (aRect t) (fun _ => rfl)
/-- Row `w` of the line's buffer, as a reference. -/
abbrev zRow (w : Fin 4) : Memref sig .tc .vmem S1x1024 .f32 := zM.slice (zRect w) (fun _ => rfl)

/-- The row's elements are the rectangle's, in the plane's buffer. -/
theorem aRow_set (t : Fin 8) : (aRow t).view.set = (aRect t).set := View.set_slice_whole _ _
/-- The row's elements are the rectangle's, in the line's buffer. -/
theorem zRow_set (w : Fin 4) : (zRow w).view.set = (zRect w).set := View.set_slice_whole _ _

/-- An element is in row `t` when its first coordinate is `t`, in the plane's buffer. -/
theorem mem_aRect (t : Fin 8) (i : S8x1024.Idx) : i ∈ (aRect t).set ↔ (i 0).val = t.val := by
  rw [Rect.mem_set_unit]
  constructor
  · intro h; have := h 0; simp at this; omega
  · intro h a
    have h1 : (i 1).val < 1024 := (i 1).isLt
    fin_cases a
    · simp [h]
    · simp; omega
/-- An element is in row `w` when its first coordinate is `w`, in the line's buffer. -/
theorem mem_zRect (w : Fin 4) (i : S4x1024.Idx) : i ∈ (zRect w).set ↔ (i 0).val = w.val := by
  rw [Rect.mem_set_unit]
  constructor
  · intro h; have := h 0; simp at this; omega
  · intro h a
    have h1 : (i 1).val < 1024 := (i 1).isLt
    fin_cases a
    · simp [h]
    · simp; omega

/-- Different rows of the plane's buffer have no common element. -/
theorem aRect_disjoint (t u : Fin 8) (h : t ≠ u) : Disjoint (aRect t).set (aRect u).set :=
  Finset.disjoint_left.mpr fun i hi hj => h (Fin.ext (((mem_aRect t i).mp hi).symm.trans ((mem_aRect u i).mp hj)))
/-- Different rows of the line's buffer have no common element. -/
theorem zRect_disjoint (t u : Fin 4) (h : t ≠ u) : Disjoint (zRect t).set (zRect u).set :=
  Finset.disjoint_left.mpr fun i hi hj => h (Fin.ext (((mem_zRect t i).mp hi).symm.trans ((mem_zRect u i).mp hj)))
/-- The eight rows make up the plane's buffer. -/
theorem aRect_cover : (Finset.univ : Finset (Fin 8)).biUnion (fun t => (aRect t).set) = Finset.univ := by
  ext i
  simp only [Finset.mem_biUnion, Finset.mem_univ, true_and, iff_true]
  exact ⟨⟨(i 0).val, (i 0).isLt⟩, (mem_aRect _ i).mpr rfl⟩
/-- The four rows make up the line's buffer. -/
theorem zRect_cover : (Finset.univ : Finset (Fin 4)).biUnion (fun t => (zRect t).set) = Finset.univ := by
  ext i
  simp only [Finset.mem_biUnion, Finset.mem_univ, true_and, iff_true]
  exact ⟨⟨(i 0).val, (i 0).isLt⟩, (mem_zRect _ i).mpr rfl⟩

/-- What one row's transfer credits. -/
abbrev N : ℕ := (aRow 0).view.dmaCredit
/-- A row's size is not zero. -/
theorem N_pos : 0 < N := View.dmaCredit_pos _ (by decide)
/-- A copy of a row of the plane's buffer counts a row's size. -/
theorem amount_a (t : Fin 8) (s : SemLoc sig) (h : ∃ q, s = .dma q) : (aRow t).view.amount s = N := by
  obtain ⟨q, rfl⟩ := h; rfl
/-- A copy of a row of the line's buffer counts a row's size. -/
theorem amount_z (t : Fin 4) (s : SemLoc sig) (h : ∃ q, s = .dma q) : (zRow t).view.amount s = N := by
  obtain ⟨q, rfl⟩ := h; rfl

end Cert.MeanProof

end
-- ==== Proof.Protocol.lean ====
/-
The protocol of the exchange: who waits on each semaphore, who counts it up, by how much, and what each
count hands over.

* Barrier of device `c`: every other device `peer c j` of its plane and line counts it up by one at its
  entry, handing over its own row number `bk c j` (whatever it holds) for `c` to copy into; `c` waits for ten.
* Receive semaphore `j` of device `c`: the copy of device `peer c j` counts it up by the size of a row and
  hands over row `j` of `c`, holding the computed contents; `c` waits for that size.
* Send semaphore `j` of device `c`: its own copy number `j` counts it up by the size of a row once its source
  has been read, and hands the lent share of the source row back; `c` waits for that size at the end.

An exchange with itself (`peer c j = c`) does not take place: its semaphores have no duty.
-/
module

public import proofs.«01_k».proof.Proof.Mesh

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

/-- The state of the semaphores' rounds. -/
abbrev UB : Type := URounds (GSem nD τ sig) (Fin 12)
/-- The proof's own state: the pipeline's and the rounds'. -/
abbrev UU : Type := UR sig nD τ × UB

local notation "𝕄" => MT nD τ sig Unit (Elt F) ℕ UU ℕ

/-- Where the pipeline's state lies in it. -/
abbrev EP : Emb (UR sig nD τ) (MT nD τ sig Unit (Elt F) ℕ UU ℕ) := embL
/-- Where the rounds' state lies in it. -/
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- The index `(0, n)` of a row. -/
def colIx {k : ℕ} (i : (⟨2, ![k, 1024]⟩ : Shape).Idx) : S1x1024.Idx := fun a =>
  match a with
  | ⟨0, _⟩ => ⟨0, Nat.one_pos⟩
  | ⟨1, _⟩ => ⟨(i 1).val, (i 1).isLt⟩

/-- The rows of `x` on device `c`, as staged. -/
def xstg (c : Dev nD) : (cc0_stg0_0 : Ref sig .tc).ty.Contents (Elt F) :=
  (win0_0.blk (0 : Fin 1)).view.read (Elt F) (m ((c : Thread nD τ).loc main_arg0))

/-- The sum of a device's own rows. -/
def part (c : Dev nD) : FVec F S1x1024 .f32 := k0_pay1 (xstg m c)

/-- The plane's gather buffer once complete: row `t` holds the sum of device number `t` of the plane. -/
def AG (c : Dev nD) : (cc0_scratch0 : Ref sig .tc).ty.Contents (Elt F) :=
  fun i : S8x1024.Idx => part m (peer c (aj ⟨(i 0).val, (i 0).isLt⟩)) (colIx i)

/-- The sum over a device's plane. -/
def plane (c : Dev nD) : FVec F S1x1024 .f32 := k0_pay2 (AG m c)

/-- The line's gather buffer once complete: row `w` holds the sum over plane `w`. -/
def ZG (c : Dev nD) : (cc0_scratch1 : Ref sig .tc).ty.Contents (Elt F) :=
  fun i : S4x1024.Idx => plane m (peer c (zj ⟨(i 0).val, (i 0).isLt⟩)) (colIx i)

/-- The kernel's result on device `c`. -/
def outAt (c : Dev nD) : (cc0_stg1_0 : Ref sig .tc).ty.Contents (Elt F) := k0_pay3 (ZG m c)

/-- The devices of a plane agree on the complete plane buffer. -/
theorem AG_peer (c : Dev nD) (t : Fin 8) : AG m (peer c (aj t)) = AG m c :=
  funext fun i => by unfold AG; rw [plane_same]
/-- The devices of a line agree on the complete line buffer. -/
theorem ZG_peer (c : Dev nD) (w : Fin 4) : ZG m (peer c (zj w)) = ZG m c :=
  funext fun i => by unfold ZG; rw [line_same]

/-- In its plane a device meets itself at its position. -/
theorem self_aj : ∀ c : Dev nD, peer c (aj (sOf c)) = c := by decide +kernel
/-- In its line a device meets itself at its plane. -/
theorem self_zj : ∀ c : Dev nD, peer c (zj (zOf c)) = c := by decide +kernel

/-- Where an element of row `t` lies in the plane's buffer. -/
theorem aRect_emb (t : Fin 8) (y : S1x1024.Idx) :
    (((aRect t).emb y) 0).val = t.val ∧ (((aRect t).emb y) 1).val = (y 1).val := by
  have h0 : (y 0).val < 1 := (y 0).isLt
  refine ⟨?_, ?_⟩ <;> simp [Rect.emb_apply] <;> omega
/-- Where an element of row `t` lies in the line's buffer. -/
theorem zRect_emb (t : Fin 4) (y : S1x1024.Idx) :
    (((zRect t).emb y) 0).val = t.val ∧ (((zRect t).emb y) 1).val = (y 1).val := by
  have h0 : (y 0).val < 1 := (y 0).isLt
  refine ⟨?_, ?_⟩ <;> simp [Rect.emb_apply] <;> omega

/-- A device's own row of the complete plane buffer is its own sum. -/
theorem AG_own (c : Dev nD) (y : S1x1024.Idx) : AG m c ((aRect (sOf c)).emb y) = part m c y := by
  have h := aRect_emb (sOf c) y
  have hy : (y 0).val < 1 := (y 0).isLt
  show part m (peer c (aj _)) (colIx _) = part m c y
  rw [show (⟨(((aRect (sOf c)).emb y) 0).val, (((aRect (sOf c)).emb y) 0).isLt⟩ : Fin 8) = sOf c from Fin.ext h.1, self_aj]
  congr 1
  funext a
  fin_cases a
  · exact Fin.ext (by show 0 = (y 0).val; omega)
  · exact Fin.ext h.2
/-- A device's own row of the complete line buffer is its plane's sum. -/
theorem ZG_own (c : Dev nD) (y : S1x1024.Idx) : ZG m c ((zRect (zOf c)).emb y) = plane m c y := by
  have h := zRect_emb (zOf c) y
  have hy : (y 0).val < 1 := (y 0).isLt
  show plane m (peer c (zj _)) (colIx _) = plane m c y
  rw [show (⟨(((zRect (zOf c)).emb y) 0).val, (((zRect (zOf c)).emb y) 0).isLt⟩ : Fin 4) = zOf c from Fin.ext h.1, self_zj]
  congr 1
  funext a
  fin_cases a
  · exact Fin.ext (by show 0 = (y 0).val; omega)
  · exact Fin.ext h.2

/-! ## Rows held -/

/-- Row `t` of device `c`'s plane buffer, row `w` of its line buffer, at a share and contents. -/
def aPts (c : Dev nD) (t : Fin 8) (q : PosShare TreeShare) (f : (cc0_scratch0 : Ref sig .tc).ty.Contents (Elt F)) : sProp 𝕄 :=
  (aRow t).view.loc (c : Thread nD τ) ↦[(aRow t).view.set]{q} f
/-- Row `w` of the line's buffer, held at a share and contents. -/
def zPts (c : Dev nD) (w : Fin 4) (q : PosShare TreeShare) (f : (cc0_scratch1 : Ref sig .tc).ty.Contents (Elt F)) : sProp 𝕄 :=
  (zRow w).view.loc (c : Thread nD τ) ↦[(zRow w).view.set]{q} f

/-- The plane position of an exchange. -/
def aIx (j : Fin 12) : Fin 8 := ⟨j.val % 8, Nat.mod_lt _ (by decide)⟩
/-- The line position of an exchange. -/
def zIx (j : Fin 12) : Fin 4 := ⟨j.val % 4, Nat.mod_lt _ (by decide)⟩
/-- The plane position of exchange `aj t` is `t`. -/
theorem aIx_aj : ∀ t : Fin 8, aIx (aj t) = t := by decide
/-- The line position of exchange `zj w` is `w`. -/
theorem zIx_zj : ∀ w : Fin 4, zIx (zj w) = w := by decide
/-- A plane's exchange number is below eight. -/
theorem aj_lt (t : Fin 8) : (aj t).val < 8 := t.isLt
/-- A line's exchange number is not below eight. -/
theorem zj_not_lt (w : Fin 4) : ¬ (zj w).val < 8 := fun h => by simp [zj] at h

/-- Row `j` of device `c` holding its computed contents; holding anything. -/
def rowPts (c : Dev nD) (j : Fin 12) (q : PosShare TreeShare) : sProp 𝕄 :=
  if j.val < 8 then aPts c (aIx j) q (AG m c) else zPts c (zIx j) q (ZG m c)
/-- The row of an exchange, held whole at any contents. -/
def rowAny (c : Dev nD) (j : Fin 12) : sProp 𝕄 :=
  if j.val < 8 then iprop(∃ f, aPts c (aIx j) fullShare f) else iprop(∃ f, zPts c (zIx j) fullShare f)

/-- The held row of a plane's exchange. -/
theorem rowPts_a (c : Dev nD) (t : Fin 8) (q : PosShare TreeShare) : rowPts m c (aj t) q = aPts c t q (AG m c) := by
  unfold rowPts; rw [if_pos (aj_lt t), aIx_aj]
/-- The held row of a line's exchange. -/
theorem rowPts_z (c : Dev nD) (w : Fin 4) (q : PosShare TreeShare) : rowPts m c (zj w) q = zPts c w q (ZG m c) := by
  unfold rowPts; rw [if_neg (zj_not_lt w), zIx_zj]
omit [FloatOps F] in
/-- The row of a plane's exchange at any contents. -/
theorem rowAny_a (c : Dev nD) (t : Fin 8) : rowAny (F := F) c (aj t) = iprop(∃ f, aPts c t fullShare f) := by
  unfold rowAny; rw [if_pos (aj_lt t), aIx_aj]
omit [FloatOps F] in
/-- The row of a line's exchange at any contents. -/
theorem rowAny_z (c : Dev nD) (w : Fin 4) : rowAny (F := F) c (zj w) = iprop(∃ f, zPts c w fullShare f) := by
  unfold rowAny; rw [if_neg (zj_not_lt w), zIx_zj]

/-- The share the device keeps for its own loads, and the shares it lends to its copies. -/
abbrev qL : PosShare TreeShare := fullShare.left
/-- The half of the row that goes to the copies. -/
abbrev qR : PosShare TreeShare := fullShare.right
/-- The share of the source row that the copy of exchange `j` reads: one of eight, or of four, parts of the half. -/
def lq (j : Fin 12) : PosShare TreeShare := if j.val < 8 then leaf 3 qR (aIx j) else leaf 2 qR (zIx j)
/-- The share lent to a plane's copy. -/
theorem lq_a (t : Fin 8) : lq (aj t) = leaf 3 qR t := by unfold lq; rw [if_pos (aj_lt t), aIx_aj]
/-- The share lent to a line's copy. -/
theorem lq_z (w : Fin 4) : lq (zj w) = leaf 2 qR w := by unfold lq; rw [if_neg (zj_not_lt w), zIx_zj]

instance aPts_storable (c : Dev nD) (t q f) : BI.Storable (upEmb : UEmb _ 𝕄) (aPts (F := F) c t q f) := by unfold aPts; infer_instance
instance zPts_storable (c : Dev nD) (t q f) : BI.Storable (upEmb : UEmb _ 𝕄) (zPts (F := F) c t q f) := by unfold zPts; infer_instance
instance rowPts_storable (c : Dev nD) (j q) : BI.Storable (upEmb : UEmb _ 𝕄) (rowPts (F := F) m c j q) := by
  unfold rowPts; split <;> infer_instance
instance rowAny_storable (c : Dev nD) (j) : BI.Storable (upEmb : UEmb _ 𝕄) (rowAny (F := F) c j) := by
  unfold rowAny; split <;> infer_instance

/-! ## The schedule -/

/-- The duties of a semaphore of device `c`. -/
def dut (c : Dev nD) (s : SemLoc sig) : Finset (Fin 12) :=
  if s = .reg barS then Finset.univ.filter fun j => peer c j ≠ c
  else if ∃ j, (s = .dma (sendSem j) ∨ s = .dma (recvSem j)) ∧ peer c j ≠ c then {0} else ∅

open Classical in
/-- What a duty hands over. -/
def pay (c : Dev nD) (s : SemLoc sig) (d : Fin 12) : sProp 𝕄 :=
  if s = .reg barS then rowAny (peer c d) (bk c d)
  else if h : ∃ j, s = .dma (sendSem j) then rowPts m c (bk c h.choose) (lq h.choose)
  else if h : ∃ j, s = .dma (recvSem j) then rowPts m c h.choose fullShare
  else iprop(emp)

/-- The schedule: each semaphore's duties, their amounts and what each hands over, all in one round. -/
def Rd : Rounds.Schedule (GSem nD τ sig) (Fin 12) 𝕄 where
  duties g r := if r = 0 ∧ g.1.2 = .tc then dut g.1.1 g.2 else ∅
  unitless _ := False
  amount g _ _ := if g.2 = .reg barS then 1 else N
  payload g _ d := pay m g.1.1 g.2 d
  amount_pos g _ _ _ := by
    by_cases h : g.2 = .reg barS
    · rw [if_pos h]; exact Nat.one_pos
    · rw [if_neg h]; exact N_pos

instance Rd_payload_storable (g : GSem nD τ sig) (r : ℕ) (d : Fin 12) :
    BI.Storable (upEmb : UEmb _ 𝕄) ((Rd (F := F) m).payload g r d) := by
  show BI.Storable upEmb (pay m g.1.1 g.2 d)
  unfold pay
  (repeat' split) <;> infer_instance

section Sched
variable (c : Dev nD) (j : Fin 12)

/-- No copy's semaphore is the barrier's. -/
theorem dma_ne_bar (q : DmaSem sig) : (SemLoc.dma q : SemLoc sig) ≠ .reg barS := fun h => by cases h
/-- Send semaphores of different exchanges differ, as places. -/
theorem send_loc_inj {i j : Fin 12} (h : (SemLoc.dma (sendSem i) : SemLoc sig) = .dma (sendSem j)) : i = j :=
  send_inj i j (by injection h)
/-- Receive semaphores of different exchanges differ, as places. -/
theorem recv_loc_inj {i j : Fin 12} (h : (SemLoc.dma (recvSem i) : SemLoc sig) = .dma (recvSem j)) : i = j :=
  recv_inj i j (by injection h)
/-- No receive semaphore is a send semaphore, as places. -/
theorem send_loc_ne {i j : Fin 12} : (SemLoc.dma (recvSem i) : SemLoc sig) ≠ .dma (sendSem j) :=
  fun h => send_ne_recv j i (by injection h with h; exact h.symm)

/-- The barrier has a duty for each exchange with another device. -/
theorem duties_bar : (Rd (F := F) m).duties (barCell c) 0 = Finset.univ.filter fun j => peer c j ≠ c := by
  have h : dut c (.reg barS) = Finset.univ.filter fun j => peer c j ≠ c := if_pos rfl
  rw [← h]; dsimp only [Rd]; exact if_pos ⟨rfl, rfl⟩

/-- A send semaphore has one duty, or none for an exchange with itself. -/
theorem dut_send : dut c (.dma (sendSem j)) = if peer c j = c then ∅ else {0} := by
  unfold dut; rw [if_neg (dma_ne_bar _)]
  by_cases h : peer c j = c
  · rw [if_pos h, if_neg]
    rintro ⟨i, hi | hi, hn⟩
    · rw [send_loc_inj hi] at h; exact hn h
    · exact send_loc_ne hi.symm
  · rw [if_neg h, if_pos ⟨j, .inl rfl, h⟩]
/-- A receive semaphore has one duty, or none for an exchange with itself. -/
theorem dut_recv : dut c (.dma (recvSem j)) = if peer c j = c then ∅ else {0} := by
  unfold dut; rw [if_neg (dma_ne_bar _)]
  by_cases h : peer c j = c
  · rw [if_pos h, if_neg]
    rintro ⟨i, hi | hi, hn⟩
    · exact send_loc_ne hi
    · rw [recv_loc_inj hi] at h; exact hn h
  · rw [if_neg h, if_pos ⟨j, .inr rfl, h⟩]
/-- The same, of the schedule's send semaphores. -/
theorem duties_send : (Rd (F := F) m).duties (sendCell c j) 0 = if peer c j = c then ∅ else {0} := by
  rw [← dut_send]; dsimp only [Rd]; exact if_pos ⟨rfl, rfl⟩
/-- The same, of the schedule's receive semaphores. -/
theorem duties_recv : (Rd (F := F) m).duties (recvCell c j) 0 = if peer c j = c then ∅ else {0} := by
  rw [← dut_recv]; dsimp only [Rd]; exact if_pos ⟨rfl, rfl⟩
/-- After the one round there is no duty. -/
theorem duties_later (g : GSem nD τ sig) : ∀ r, 1 ≤ r → (Rd (F := F) m).duties g r = ∅ :=
  fun r hr => by dsimp only [Rd]; exact if_neg fun h => by omega
/-- The semaphores of an exchange with itself have no duty at all. -/
theorem duties_send_own (h : peer c j = c) : ∀ r, 0 ≤ r → (Rd (F := F) m).duties (sendCell c j) r = ∅ := fun r _ => by
  rcases Nat.eq_zero_or_pos r with rfl | hr
  · rw [duties_send, if_pos h]
  · exact duties_later m _ r hr
/-- The receive semaphore of an exchange with itself never has a duty. -/
theorem duties_recv_own (h : peer c j = c) : ∀ r, 0 ≤ r → (Rd (F := F) m).duties (recvCell c j) r = ∅ := fun r _ => by
  rcases Nat.eq_zero_or_pos r with rfl | hr
  · rw [duties_recv, if_pos h]
  · exact duties_later m _ r hr

/-- A barrier signal counts one. -/
theorem amount_bar (d : Fin 12) : (Rd (F := F) m).amount (barCell c) 0 d = 1 := by dsimp only [Rd]; exact if_pos rfl
/-- A send counts a row's size. -/
theorem amount_send (d : Fin 12) : (Rd (F := F) m).amount (sendCell c j) 0 d = N := by dsimp only [Rd]; exact if_neg (dma_ne_bar _)
/-- An arrival counts a row's size. -/
theorem amount_recv (d : Fin 12) : (Rd (F := F) m).amount (recvCell c j) 0 d = N := by dsimp only [Rd]; exact if_neg (dma_ne_bar _)

/-- The barrier expects ten signals. -/
theorem expect_bar : (Rd (F := F) m).expect (barCell c) 0 = 10 := by
  unfold Schedule.expect Schedule.amountOf
  rw [duties_bar, Finset.sum_congr rfl fun d _ => amount_bar m c d, Finset.sum_const, ten, smul_eq_mul]
/-- A send semaphore expects a row's size. -/
theorem expect_send (h : peer c j ≠ c) : (Rd (F := F) m).expect (sendCell c j) 0 = N := by
  unfold Schedule.expect Schedule.amountOf; rw [duties_send, if_neg h, Finset.sum_singleton, amount_send]
/-- A receive semaphore expects a row's size. -/
theorem expect_recv (h : peer c j ≠ c) : (Rd (F := F) m).expect (recvCell c j) 0 = N := by
  unfold Schedule.expect Schedule.amountOf; rw [duties_recv, if_neg h, Finset.sum_singleton, amount_recv]

/-- A barrier signal hands over the signaller's empty row. -/
theorem payload_bar (d : Fin 12) : (Rd (F := F) m).payload (barCell c) 0 d = rowAny (peer c d) (bk c d) := by
  show pay m c (.reg barS) d = _
  unfold pay; rw [if_pos rfl]
/-- A send's end hands the lent share of the source row back. -/
theorem payload_send (d : Fin 12) : (Rd (F := F) m).payload (sendCell c j) 0 d = rowPts m c (bk c j) (lq j) := by
  show pay m c (.dma (sendSem j)) d = _
  have h : ∃ i, (SemLoc.dma (sendSem j) : SemLoc sig) = .dma (sendSem i) := ⟨j, rfl⟩
  unfold pay; rw [if_neg (dma_ne_bar _), dif_pos h, ← send_loc_inj h.choose_spec]
/-- An arrival hands over the row with its contents. -/
theorem payload_recv (d : Fin 12) : (Rd (F := F) m).payload (recvCell c j) 0 d = rowPts m c j fullShare := by
  show pay m c (.dma (recvSem j)) d = _
  have h : ∃ i, (SemLoc.dma (recvSem j) : SemLoc sig) = .dma (recvSem i) := ⟨j, rfl⟩
  unfold pay; rw [if_neg (dma_ne_bar _), dif_neg (fun ⟨i, hi⟩ => send_loc_ne hi), dif_pos h, ← recv_loc_inj h.choose_spec]

/-- The row of the other end that exchange `j` may copy into, once handed over; nothing for an exchange with itself. -/
def land (c : Dev nD) (j : Fin 12) : sProp 𝕄 := if peer c j = c then iprop(emp) else rowAny (peer c j) (bk c j)

/-- What the barrier's wait brings: the ten devices' rows. -/
theorem rest_bar : bigSep ((Rd (F := F) m).duties (barCell c) 0 \ ∅) (fun d => (Rd (F := F) m).payload (barCell c) 0 d)
    = bigSep Finset.univ fun j : Fin 12 => land c j := by
  rw [Finset.sdiff_empty, duties_bar, bigSep_filter]
  refine bigSep_congr fun d _ => ?_
  rw [payload_bar]; unfold land
  by_cases h : peer c d = c
  · rw [if_pos h, if_neg (fun hn => hn h)]; rfl
  · rw [if_neg h, if_pos h]
/-- What the wait of a send brings: the lent share. -/
theorem rest_send (h : peer c j ≠ c) :
    bigSep ((Rd (F := F) m).duties (sendCell c j) 0 \ ∅) (fun d => (Rd (F := F) m).payload (sendCell c j) 0 d) = rowPts m c (bk c j) (lq j) := by
  rw [Finset.sdiff_empty, duties_send, if_neg h, bigSep_singleton, payload_send]
/-- What the wait of an arrival brings: the row. -/
theorem rest_recv (h : peer c j ≠ c) :
    bigSep ((Rd (F := F) m).duties (recvCell c j) 0 \ ∅) (fun d => (Rd (F := F) m).payload (recvCell c j) 0 d) = rowPts m c j fullShare := by
  rw [Finset.sdiff_empty, duties_recv, if_neg h, bigSep_singleton, payload_recv]

end Sched

/-! ## What each device owes at launch; the levels -/

/-- What exchange `j` makes device `c` owe: one signal, and one row. -/
def oweSig (c : Dev nD) (j : Fin 12) : CellTallies nD τ sig Unit := if peer c j = c then 0 else tallyAt (barCell (peer c j)) () 1
/-- What a device owes an exchange's receive semaphore at the other end: a row's size, or nothing to itself. -/
def oweRow (c : Dev nD) (j : Fin 12) : CellTallies nD τ sig Unit := if peer c j = c then 0 else tallyAt (recvCell (peer c j) (bk c j)) () N

/-- The debts of a list of exchanges on top of `O`; the first of the list is paid first. -/
def owe (f : Fin 12 → CellTallies nD τ sig Unit) (O : CellTallies nD τ sig Unit) : List (Fin 12) → CellTallies nD τ sig Unit
  | [] => O
  | j :: l => owe f O l + f j

/-- What a device owes for the copies of a list of exchanges. -/
def rowsFrom (c : Dev nD) (l : List (Fin 12)) : CellTallies nD τ sig Unit := owe (oweRow c) 0 l
/-- What a device owes at launch: its signals, then its copies. -/
def O₀ (c : Dev nD) : CellTallies nD τ sig Unit :=
  owe (oweSig c) (rowsFrom c [0, 1, 2, 3, 4, 5, 6, 7, 8, 9, 10, 11]) [0, 1, 2, 3, 4, 5, 6, 7, 8, 9, 10, 11]

/-- The levels a semaphore has. -/
def L (g : GSem nD τ sig) : Finset Unit := if g.1.2 = .tc then {()} else ∅
/-- The order of waiting: the barrier first, then the plane's receives, then the line's. -/
def lvS (s : SemLoc sig) : ℕ :=
  if s = .reg barS then 1 else if ∃ j : Fin 12, s = .dma (recvSem j) ∧ j.val < 8 then 2
  else if ∃ j : Fin 12, s = .dma (recvSem j) then 3 else 0
/-- The level of a semaphore: the barrier below the plane's arrivals, those below the line's. -/
def lv (g : GSem nD τ sig) (_ : Unit) : ℕ := lvS g.2

/-- Only the main cores' semaphores have a level. -/
theorem L_of_ne (g : GSem nD τ sig) (h : g.1.2 ≠ .tc) : L g = ∅ := if_neg h
/-- A main core's semaphore has its one level. -/
theorem L_tc (c : Dev nD) (sm : SemLoc sig) : L ((c : Thread nD τ), sm) = {()} := if_pos rfl
/-- The plane's arrivals have level two, the line's three. -/
theorem lv_recv : ∀ j : Fin 12, lvS (.dma (recvSem j)) = if j.val < 8 then 2 else 3 := by decide +kernel
/-- The barrier has level one. -/
theorem lv_bar : lvS (.reg barS) = 1 := if_pos rfl

/-- What is owed of a list is owed of one of its members, or was owed before. -/
theorem owe_pos (f : Fin 12 → CellTallies nD τ sig Unit) (O : CellTallies nD τ sig Unit) (g : GSem nD τ sig) (u : Unit) :
    ∀ l : List (Fin 12), 0 < owe f O l g u → 0 < O g u ∨ ∃ j ∈ l, 0 < f j g u
  | [], h => .inl h
  | j :: l, h => by
    have h' : 0 < owe f O l g u + f j g u := h
    rcases Nat.eq_zero_or_pos (f j g u) with h0 | h0
    · rw [h0, Nat.add_zero] at h'
      rcases owe_pos f O g u l h' with h1 | ⟨i, hi, h1⟩
      · exact .inl h1
      · exact .inr ⟨i, List.mem_cons_of_mem _ hi, h1⟩
    · exact .inr ⟨j, List.mem_cons_self, h0⟩

/-- A signal is owed to the other end's barrier. -/
theorem oweSig_pos {c : Dev nD} {j : Fin 12} {g : GSem nD τ sig} {u : Unit} (h : 0 < oweSig c j g u) : g = barCell (peer c j) := by
  unfold oweSig at h
  split at h
  · exact absurd h (Nat.lt_irrefl 0)
  · rw [tallyAt_apply] at h
    by_contra hn
    rw [if_neg (fun h' => hn h'.1)] at h
    exact Nat.lt_irrefl 0 h
/-- A copy is owed to the other end's receive semaphore. -/
theorem oweRow_pos {c : Dev nD} {j : Fin 12} {g : GSem nD τ sig} {u : Unit} (h : 0 < oweRow c j g u) : g = recvCell (peer c j) (bk c j) := by
  unfold oweRow at h
  split at h
  · exact absurd h (Nat.lt_irrefl 0)
  · rw [tallyAt_apply] at h
    by_contra hn
    rw [if_neg (fun h' => hn h'.1)] at h
    exact Nat.lt_irrefl 0 h
/-- What is owed for copies is owed to a receive semaphore of the list. -/
theorem rowsFrom_pos {c : Dev nD} {l : List (Fin 12)} {g : GSem nD τ sig} {u : Unit} (h : 0 < rowsFrom c l g u) :
    ∃ j ∈ l, g = recvCell (peer c j) (bk c j) := by
  rcases owe_pos _ _ g u l h with h0 | ⟨j, hj, h1⟩
  · exact absurd h0 (Nat.lt_irrefl 0)
  · exact ⟨j, hj, oweRow_pos h1⟩
/-- What is owed at launch is owed to a barrier or to a receive semaphore. -/
theorem O₀_pos {c : Dev nD} {g : GSem nD τ sig} {u : Unit} (h : 0 < O₀ c g u) :
    (∃ j, g = barCell (peer c j)) ∨ ∃ j, g = recvCell (peer c j) (bk c j) := by
  rcases owe_pos _ _ g u _ h with h0 | ⟨j, -, h1⟩
  · obtain ⟨j, -, h2⟩ := rowsFrom_pos h0; exact .inr ⟨j, h2⟩
  · exact .inl ⟨j, oweSig_pos h1⟩

omit [FloatOps F] in
/-- A wait at level `n` while owing cells above `n` only. -/
theorem mayWait_of (c : Dev nD) (s : SemLoc sig) (n : ℕ) (hs : lvS s ≤ n) (O : CellTallies nD τ sig Unit)
    (hO : ∀ g u, 0 < O g u → g.1.2 = .tc ∧ n < lvS g.2) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
/-- A wait of the pipeline's own copies is below everything owed. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine mayWait_of c _ 0 hq.le _ fun g u hg => ?_
    rcases O₀_pos hg with ⟨j, rfl⟩ | ⟨j, rfl⟩
    · exact ⟨rfl, by rw [lv_bar]; decide⟩
    · exact ⟨rfl, by rw [lv_recv]; split <;> decide⟩
  · rw [MayWait_zero]; iintro -; iempintro

omit [FloatOps F] in
/-- The barrier wait, owing rows only. -/
theorem mayWait_bar (c : Dev nD) (l : List (Fin 12)) :
    (levAts L lv : sProp 𝕄) ⊢ MayWait (c : Thread nD τ) (.reg barS) () (rowsFrom c l) :=
  mayWait_of c _ 1 lv_bar.le _ fun g u hg => by
    obtain ⟨j, -, rfl⟩ := rowsFrom_pos hg
    exact ⟨rfl, by rw [lv_recv]; split <;> decide⟩

omit [FloatOps F] in
/-- A receive wait of the plane, owing rows of the line only. -/
theorem mayWait_row (c : Dev nD) (j : Fin 12) (hj : j.val < 8) (l : List (Fin 12)) (hl : ∀ i ∈ l, 8 ≤ i.val) :
    (levAts L lv : sProp 𝕄) ⊢ MayWait (c : Thread nD τ) (.dma (recvSem j)) () (rowsFrom c l) :=
  mayWait_of c _ 2 (by rw [lv_recv, if_pos hj]) _ fun g u hg => by
    obtain ⟨i, hi, rfl⟩ := rowsFrom_pos hg
    have h8 : ¬ (bk c i).val < 8 := fun h => by have := (bk_lt c i).mp h; have := hl i hi; omega
    exact ⟨rfl, by rw [lv_recv, if_neg h8]; decide⟩

end Cert.MeanProof

end
-- ==== Proof.Steps.lean ====
/-
The kernel's steps: one lemma per kind of branch the kernel runs through — a signal, a copy of a row to
another device, a wait for a received row, a wait for a sent row — each at any device and any exchange.
-/
module

public import proofs.«01_k».proof.Proof.Protocol

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none
/-- How device `c` runs an effect. -/
abbrev Run (c : Dev nD) := wpE (Ix := Unit) (Name := ℕ) (U := UU) (Lvl := ℕ) (defs₀ (F := F)) 𝒱₀ (c : Thread nD τ) none

/-! ## What everyone knows -/

/-- The invariants of all semaphores of all devices under the names `K`, that each is past its start, and the levels. -/
def recs (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance recs_persistent (K : Dev nD × CI → ℕ) : BI.Persistent (recs m K) := by unfold recs; infer_instance

variable (K : Dev nD × CI → ℕ)

omit [FloatOps F] in
/-- Of a family one member may be kept. -/
theorem bigSep_at {I : Type} [Fintype I] [DecidableEq I] (Φ : I → sProp 𝕄) (i : I) : bigSep Finset.univ Φ ⊢ Φ i :=
  bigSep_elim (Finset.mem_univ i)

/-- What is known holds the barrier's invariant. -/
theorem inv_bar (c : Dev nD) : recs m K ⊢ cellInv ER (Rd m) (K (c, .inl ())) (barCell c) := by
  unfold recs; iintro ⟨H, -⟩; iapply (bigSep_at (fun ck : Dev nD × CI => (cellInv ER (Rd m) (K ck) (kcell ck) : sProp 𝕄)) (c, .inl ())); iexact H
/-- What is known holds a send semaphore's invariant. -/
theorem inv_send (c : Dev nD) (j : Fin 12) : recs m K ⊢ cellInv ER (Rd m) (K (c, .inr (.inl j))) (sendCell c j) := by
  unfold recs; iintro ⟨H, -⟩; iapply (bigSep_at (fun ck : Dev nD × CI => (cellInv ER (Rd m) (K ck) (kcell ck) : sProp 𝕄)) (c, .inr (.inl j))); iexact H
/-- What is known holds a receive semaphore's invariant. -/
theorem inv_recv (c : Dev nD) (j : Fin 12) : recs m K ⊢ cellInv ER (Rd m) (K (c, .inr (.inr j))) (recvCell c j) := by
  unfold recs; iintro ⟨H, -⟩; iapply (bigSep_at (fun ck : Dev nD × CI => (cellInv ER (Rd m) (K ck) (kcell ck) : sProp 𝕄)) (c, .inr (.inr j))); iexact H
/-- The barrier has reached its round. -/
theorem past_bar (c : Dev nD) : recs m K ⊢ reached ER (barCell c) 0 := by
  unfold recs; iintro ⟨-, H, -⟩; iapply (bigSep_at (fun ck : Dev nD × CI => (reached ER (kcell ck) 0 : sProp 𝕄)) (c, .inl ())); iexact H
/-- A send semaphore has reached its round. -/
theorem past_send (c : Dev nD) (j : Fin 12) : recs m K ⊢ reached ER (sendCell c j) 0 := by
  unfold recs; iintro ⟨-, H, -⟩; iapply (bigSep_at (fun ck : Dev nD × CI => (reached ER (kcell ck) 0 : sProp 𝕄)) (c, .inr (.inl j))); iexact H
/-- A receive semaphore has reached its round. -/
theorem past_recv (c : Dev nD) (j : Fin 12) : recs m K ⊢ reached ER (recvCell c j) 0 := by
  unfold recs; iintro ⟨-, H, -⟩; iapply (bigSep_at (fun ck : Dev nD × CI => (reached ER (kcell ck) 0 : sProp 𝕄)) (c, .inr (.inr j))); iexact H
/-- What follows from the levels follows from what is known. -/
theorem recs_wait {P : sProp 𝕄} (h : (levAts L lv : sProp 𝕄) ⊢ P) : recs m K ⊢ P := by
  unfold recs; iintro ⟨-, -, H⟩; iapply h; iexact H

/-! ## What a device holds for an exchange, before and after each kind of step -/

/-- What device `c` still owes. -/
def ow (c : Dev nD) (O : CellTallies nD τ sig Unit) : sProp 𝕄 := iprop(∃ W, owes (c : Thread nD τ) O W)

/-- Before its signal: the row it will hand over, and the right to signal. -/
def sigIn (c : Dev nD) (j : Fin 12) : sProp 𝕄 := iprop(rowAny c j ∗ dutyTok ER (barCell (peer c j)) 0 (bk c j))
/-- After it: the row, if it was its own. -/
def sigOut (c : Dev nD) (j : Fin 12) : sProp 𝕄 := if peer c j = c then rowAny c j else iprop(emp)

/-- Before a copy: the lent share of its own row, the row it may copy into, and the rights to count both ends. -/
def sndIn (c : Dev nD) (j : Fin 12) : sProp 𝕄 :=
  iprop(rowPts m c (bk c j) (lq j) ∗ land c j ∗ dutyTok ER (sendCell c j) 0 0 ∗ dutyTok ER (recvCell (peer c j) (bk c j)) 0 0)
/-- After it: the claim on its completion. -/
def sndOut (c : Dev nD) (j : Fin 12) : sProp 𝕄 :=
  if peer c j = c then rowPts m c (bk c j) (lq j) else cred (tallyAt (sendCell c j) () N)

/-- Before the wait for a row: the claim on its arrival. -/
def rcvIn (c : Dev nD) (j : Fin 12) : sProp 𝕄 :=
  iprop(atPos ER (recvCell c j) 0 ∅ 0 ∗ if peer c j = c then iprop(emp) else cred (tallyAt (recvCell c j) () N))
/-- After it: the row. -/
def rcvRow (c : Dev nD) (j : Fin 12) : sProp 𝕄 := if peer c j = c then iprop(emp) else rowPts m c j fullShare
/-- After the wait of an arrival: the row, and the counter at zero. -/
def rcvOut (c : Dev nD) (j : Fin 12) : sProp 𝕄 := iprop(rcvRow m c j ∗ semVal (recvCell c j) 0)

/-- Before the wait for a copy's completion, and after it: the lent share. -/
def cmpIn (c : Dev nD) (j : Fin 12) : sProp 𝕄 := iprop(sndOut m c j ∗ atPos ER (sendCell c j) 0 ∅ 0)
/-- After the wait of a send: the lent share, and the counter at zero. -/
def cmpOut (c : Dev nD) (j : Fin 12) : sProp 𝕄 := iprop(rowPts m c (bk c j) (lq j) ∗ semVal (sendCell c j) 0)

/-! ## The signal -/

/-- The signal of one exchange: the device's own row is handed over and the signal is owed no more; an exchange
    with itself is skipped. -/
theorem sig_step (c : Dev nD) (j : Fin 12) (O : CellTallies nD τ sig Unit) (p : Prop) [Decidable p] (hp : p ↔ peer c j ≠ c)
    (dv : p → Dev nD) (hdv : ∀ h, dv h = peer c j) {α : Type} (rest : Prog (TpuEff nD τ sig (Elt F) Λ₀ .tc) α) (Q : α → sProp 𝕄) :
    iprop(recs m K ∗ ow c (O + oweSig c j) ∗ sigIn c j)
      ⊢ iprop((ow c O ∗ sigOut c j -∗ wp frame (Run (F := F) c) Set.univ rest Q)
          -∗ wp frame (Run (F := F) c) Set.univ
              (if h : p then (do
                semSignalWord (dv h) barS 1#32
                rest)
              else rest) Q) := by
  unfold sigIn sigOut ow
  by_cases h : peer c j = c
  · rw [dif_neg (fun hh => (hp.mp hh) h), if_pos h, show oweSig c j = 0 from if_pos h, add_zero]
    iintro ⟨-, HO, Hrow, -⟩ Hk
    iapply Hk
    isplitl [HO] <;> iassumption
  · rw [dif_pos (hp.mpr h), if_neg h, show oweSig c j = tallyAt (barCell (peer c j)) () 1 from if_neg h, hdv]
    simp only [semSignalWord, Prog.lift, Prog.bind_op, Prog.bind_ret]
    iintro ⟨#HR, ⟨%W, HO⟩, Hrow, Htok⟩ Hk
    iapply (Rounds.wp_signal 𝒱₀ ER (Rd m) (c : Thread nD τ) none (dst := (peer c j : Thread nD τ)) (κ := K (peer c j, .inl ()))
        (d := bk c j) (by rw [duties_bar]; exact Finset.mem_filter.mpr ⟨Finset.mem_univ _, fun hh => h ((own_back c j).mp hh)⟩)
        ((amount_bar m (peer c j) (bk c j)).trans (by decide)) () O rfl) $$ [HO Hrow Htok]
    · isplitr; · iapply (inv_bar m K (peer c j)); iexact HR
      isplitl [HO]; · iexact HO
      isplitl [Htok]; · iexact Htok
      isplitl [Hrow]; · rw [payload_bar, peer_back, bk_back]; iexact Hrow
      iapply (past_bar m K (peer c j)); iexact HR
    iintro HO
    iapply Hk
    isplitl [HO]; · iexists W; iexact HO
    iempintro

/-! ## The copy -/

/-- A row of contents copied onto the same row of another device's buffer: the row then holds those contents. -/
theorem aRow_landed (c : Dev nD) (t : Fin 8) (f g : (cc0_scratch0 : Ref sig .tc).ty.Contents (Elt F)) :
    ((aRow t).view.loc (c : Thread nD τ) ↦[(aRow t).view.set]{fullShare} ((aRow t).view.write (Elt F) f ((aRow t).view.read (Elt F) g) Finset.univ) : sProp 𝕄)
      = aPts c t fullShare g := by
  unfold aPts
  refine pointsTo_congr fun i hi => ?_
  obtain ⟨y, -, rfl⟩ := Finset.mem_map.mp hi
  rw [View.write_emb_of_mem _ _ (Finset.mem_univ y), View.read_apply, cast_cast, cast_eq]
/-- A row of the line's buffer that a copy has landed in holds what the source held. -/
theorem zRow_landed (c : Dev nD) (t : Fin 4) (f g : (cc0_scratch1 : Ref sig .tc).ty.Contents (Elt F)) :
    ((zRow t).view.loc (c : Thread nD τ) ↦[(zRow t).view.set]{fullShare} ((zRow t).view.write (Elt F) f ((zRow t).view.read (Elt F) g) Finset.univ) : sProp 𝕄)
      = zPts c t fullShare g := by
  unfold zPts
  refine pointsTo_congr fun i hi => ?_
  obtain ⟨y, -, rfl⟩ := Finset.mem_map.mp hi
  rw [View.write_emb_of_mem _ _ (Finset.mem_univ y), View.read_apply, cast_cast, cast_eq]

/-- The copy of a plane row, at substituted device and semaphores. -/
theorem a_copy (c : Dev nD) (t : Fin 8) (h : peer c (aj t) ≠ c) (n : Dev nD) (hn : n = peer c (aj t))
    (sS sR : DmaSem sig) (hS : sS = sendSem (aj t)) (hR : sR = recvSem (aj (sOf c)))
    {hsc : (aRow (sOf c) : Memref sig (Dev.tc n : Thread nD τ).2.kind .vmem S1x1024 .f32).view.ref.isScScratch = false}
    {hsrc : (aRow (sOf c)).view.WordExact} {hdst : (aRow (sOf c)).view.WordExact}
    {hsem : DmaTarget.Typed .vmem (.dma sR) (.remote (Dev.tc n : Thread nD τ) (aRow (sOf c)) (.dma sS) hsc)}
    {α : Type} {k : PUnit → Prog (TpuEff nD τ sig (Elt F) Λ₀ .tc) α} {Q : α → sProp 𝕄} (O : CellTallies nD τ sig Unit) :
    iprop(recs m K ∗ ow c (O + oweRow c (aj t)) ∗ sndIn m c (aj t))
      ⊢ iprop((ow c O ∗ sndOut m c (aj t) -∗ wp frame (Run (F := F) c) Set.univ (k ⟨⟩) Q)
          -∗ wp frame (Run (F := F) c) Set.univ
              (.op (.enqueueDma (aRow (sOf c)) (.remote (Dev.tc n : Thread nD τ) (aRow (sOf c)) (.dma sS) hsc) (.dma sR) hsrc hdst hsem) k) Q) := by
  subst hn hS hR
  have hnb : peer (peer c (aj t)) (aj (sOf c)) ≠ peer c (aj t) := fun hh => h ((own_back c (aj t)).mp (by rw [bk_aj]; exact hh))
  unfold ow sndIn sndOut land oweRow
  rw [if_neg h, if_neg h, if_neg h, bk_aj, rowPts_a, rowAny_a]
  iintro ⟨#HR, ⟨%W, HO⟩, Hsrc, ⟨%fd, Hdst⟩, HtS, HtR⟩ Hk
  unfold aPts
  iapply (Rounds.wp_send_pointsTo 𝒱₀ ER (Rd m) (c : Thread nD τ) none (κ₁ := K (c, .inr (.inl (aj t)))) (κ₂ := K (peer c (aj t), .inr (.inr (aj (sOf c)))))
    (r₁ := 0) (r₂ := 0) (d₁ := 0) (d₂ := 0) (fd := fd)
    (by rw [duties_send, if_neg h]; exact Finset.mem_singleton_self _) (by rw [duties_recv, if_neg hnb]; exact Finset.mem_singleton_self _)
    () () N (amount_a (sOf c) _ ⟨_, rfl⟩) (amount_send m c (aj t) 0) (amount_recv m (peer c (aj t)) (aj (sOf c)) 0) O rfl (W := W)
    (by rw [payload_send, bk_aj, rowPts_a]; exact BI.Entails.refl _)
    (by rw [payload_recv, rowPts_a, AG_peer, aRow_landed])) $$ [HO Hsrc Hdst HtS HtR]
  · isplitr; · iapply (inv_send m K c (aj t)); iexact HR
    isplitr; · iapply (inv_recv m K (peer c (aj t)) (aj (sOf c))); iexact HR
    isplitl [Hsrc]; · iexact Hsrc
    isplitl [Hdst]; · iexact Hdst
    isplitl [HO]; · iexact HO
    isplitl [HtS]; · iexact HtS
    isplitr; · iapply (past_send m K c (aj t)); iexact HR
    isplitl [HtR]; · iexact HtR
    iapply (past_recv m K (peer c (aj t)) (aj (sOf c))); iexact HR
  iintro ⟨Hc, HO⟩
  iapply Hk
  isplitl [HO]; · iexists W; iexact HO
  iexact Hc

/-- The copy of a line row, at substituted device and semaphores. -/
theorem z_copy (c : Dev nD) (t : Fin 4) (h : peer c (zj t) ≠ c) (n : Dev nD) (hn : n = peer c (zj t))
    (sS sR : DmaSem sig) (hS : sS = sendSem (zj t)) (hR : sR = recvSem (zj (zOf c)))
    {hsc : (zRow (zOf c) : Memref sig (Dev.tc n : Thread nD τ).2.kind .vmem S1x1024 .f32).view.ref.isScScratch = false}
    {hsrc : (zRow (zOf c)).view.WordExact} {hdst : (zRow (zOf c)).view.WordExact}
    {hsem : DmaTarget.Typed .vmem (.dma sR) (.remote (Dev.tc n : Thread nD τ) (zRow (zOf c)) (.dma sS) hsc)}
    {α : Type} {k : PUnit → Prog (TpuEff nD τ sig (Elt F) Λ₀ .tc) α} {Q : α → sProp 𝕄} (O : CellTallies nD τ sig Unit) :
    iprop(recs m K ∗ ow c (O + oweRow c (zj t)) ∗ sndIn m c (zj t))
      ⊢ iprop((ow c O ∗ sndOut m c (zj t) -∗ wp frame (Run (F := F) c) Set.univ (k ⟨⟩) Q)
          -∗ wp frame (Run (F := F) c) Set.univ
              (.op (.enqueueDma (zRow (zOf c)) (.remote (Dev.tc n : Thread nD τ) (zRow (zOf c)) (.dma sS) hsc) (.dma sR) hsrc hdst hsem) k) Q) := by
  subst hn hS hR
  have hnb : peer (peer c (zj t)) (zj (zOf c)) ≠ peer c (zj t) := fun hh => h ((own_back c (zj t)).mp (by rw [bk_zj]; exact hh))
  unfold ow sndIn sndOut land oweRow
  rw [if_neg h, if_neg h, if_neg h, bk_zj, rowPts_z, rowAny_z]
  iintro ⟨#HR, ⟨%W, HO⟩, Hsrc, ⟨%fd, Hdst⟩, HtS, HtR⟩ Hk
  unfold zPts
  iapply (Rounds.wp_send_pointsTo 𝒱₀ ER (Rd m) (c : Thread nD τ) none (κ₁ := K (c, .inr (.inl (zj t)))) (κ₂ := K (peer c (zj t), .inr (.inr (zj (zOf c)))))
    (r₁ := 0) (r₂ := 0) (d₁ := 0) (d₂ := 0) (fd := fd)
    (by rw [duties_send, if_neg h]; exact Finset.mem_singleton_self _) (by rw [duties_recv, if_neg hnb]; exact Finset.mem_singleton_self _)
    () () N (amount_z (zOf c) _ ⟨_, rfl⟩) (amount_send m c (zj t) 0) (amount_recv m (peer c (zj t)) (zj (zOf c)) 0) O rfl (W := W)
    (by rw [payload_send, bk_zj, rowPts_z]; exact BI.Entails.refl _)
    (by rw [payload_recv, rowPts_z, ZG_peer, zRow_landed])) $$ [HO Hsrc Hdst HtS HtR]
  · isplitr; · iapply (inv_send m K c (zj t)); iexact HR
    isplitr; · iapply (inv_recv m K (peer c (zj t)) (zj (zOf c))); iexact HR
    isplitl [Hsrc]; · iexact Hsrc
    isplitl [Hdst]; · iexact Hdst
    isplitl [HO]; · iexact HO
    isplitl [HtS]; · iexact HtS
    isplitr; · iapply (past_send m K c (zj t)); iexact HR
    isplitl [HtR]; · iexact HtR
    iapply (past_recv m K (peer c (zj t)) (zj (zOf c))); iexact HR
  iintro ⟨Hc, HO⟩
  iapply Hk
  isplitl [HO]; · iexists W; iexact HO
  iexact Hc

/-- The branch copying a plane row, as the kernel spells it. -/
theorem a_send_step (c : Dev nD) (t : Fin 8) (O : CellTallies nD τ sig Unit) (p : Prop) [Decidable p] (hp : p ↔ peer c (aj t) ≠ c)
    (dv : p → Dev nD) (hdv : ∀ h, dv h = peer c (aj t))
    (o1 o2 : Fin 1 → ℕ) (o3 : Fin 2 → ℕ) (ho1 : o1 = ![t.val]) (ho2 : o2 = ![(sOf c).val]) (ho3 : o3 = ![(sOf c).val, 0])
    (i1 : ∀ a, o1 a + S1.size a ≤ S8.size a) (i2 : p → ∀ a, o2 a + S1.size a ≤ S8.size a) (i3 : p → ∀ a, o3 a + S1x1024.size a ≤ S8x1024.size a)
    {α : Type} (rest : Prog (TpuEff nD τ sig (Elt F) Λ₀ .tc) α) (Q : α → sProp 𝕄) :
    iprop(recs m K ∗ ow c (O + oweRow c (aj t)) ∗ sndIn m c (aj t))
      ⊢ iprop((ow c O ∗ sndOut m c (aj t) -∗ wp frame (Run (F := F) c) Set.univ rest Q)
          -∗ wp frame (Run (F := F) c) Set.univ
              (if h : p then (do
                Prog.lift (.enqueueDma (aM.slice (Rect.unit (s := S8x1024) o3 S1x1024.size (i3 h)) (fun _ => rfl))
                  (.remote (Dev.tc (dv h)) (aM.slice (Rect.unit (s := S8x1024) o3 S1x1024.size (i3 h)) (fun _ => rfl))
                    (.dma ((((cc0_scratch2 : DmaSems sig S8).slice (Rect.unit (s := S8) o1 S1.size i1)).squeeze S_ squeezes_S1_S_).sem)))
                  (.dma ((((cc0_scratch3 : DmaSems sig S8).slice (Rect.unit (s := S8) o2 S1.size (i2 h))).squeeze S_ squeezes_S1_S_).sem))
                  (View.wordExact_bits rfl) (View.wordExact_bits rfl) ⟨⟨rfl, Or.inl rfl⟩, trivial⟩)
                rest)
              else rest) Q) := by
  subst ho1 ho2 ho3
  by_cases h : peer c (aj t) = c
  · rw [dif_neg (fun hh => (hp.mp hh) h), show oweRow c (aj t) = 0 from if_pos h, add_zero]
    unfold sndIn sndOut
    rw [if_pos h]
    iintro ⟨-, HO, Hrow, -⟩ Hk
    iapply Hk
    isplitl [HO] <;> iassumption
  · rw [dif_pos (hp.mpr h)]
    simp only [Prog.lift, Prog.bind_op, Prog.bind_ret]
    iintro HIn Hk
    iapply (a_copy m K c t h (dv (hp.mpr h)) (hdv _) _ _ (sem_a_send t) (sem_a_recv (sOf c)) O) $$ HIn
    iintro HOut
    iapply Hk; iexact HOut

/-- The branch copying a line row, as the kernel spells it. -/
theorem z_send_step (c : Dev nD) (t : Fin 4) (O : CellTallies nD τ sig Unit) (p : Prop) [Decidable p] (hp : p ↔ peer c (zj t) ≠ c)
    (dv : p → Dev nD) (hdv : ∀ h, dv h = peer c (zj t))
    (o1 o2 : Fin 1 → ℕ) (o3 : Fin 2 → ℕ) (ho1 : o1 = ![t.val]) (ho2 : o2 = ![(zOf c).val]) (ho3 : o3 = ![(zOf c).val, 0])
    (i1 : ∀ a, o1 a + S1.size a ≤ S4.size a) (i2 : p → ∀ a, o2 a + S1.size a ≤ S4.size a) (i3 : p → ∀ a, o3 a + S1x1024.size a ≤ S4x1024.size a)
    {α : Type} (rest : Prog (TpuEff nD τ sig (Elt F) Λ₀ .tc) α) (Q : α → sProp 𝕄) :
    iprop(recs m K ∗ ow c (O + oweRow c (zj t)) ∗ sndIn m c (zj t))
      ⊢ iprop((ow c O ∗ sndOut m c (zj t) -∗ wp frame (Run (F := F) c) Set.univ rest Q)
          -∗ wp frame (Run (F := F) c) Set.univ
              (if h : p then (do
                Prog.lift (.enqueueDma (zM.slice (Rect.unit (s := S4x1024) o3 S1x1024.size (i3 h)) (fun _ => rfl))
                  (.remote (Dev.tc (dv h)) (zM.slice (Rect.unit (s := S4x1024) o3 S1x1024.size (i3 h)) (fun _ => rfl))
                    (.dma ((((cc0_scratch4 : DmaSems sig S4).slice (Rect.unit (s := S4) o1 S1.size i1)).squeeze S_ squeezes_S1_S_).sem)))
                  (.dma ((((cc0_scratch5 : DmaSems sig S4).slice (Rect.unit (s := S4) o2 S1.size (i2 h))).squeeze S_ squeezes_S1_S_).sem))
                  (View.wordExact_bits rfl) (View.wordExact_bits rfl) ⟨⟨rfl, Or.inl rfl⟩, trivial⟩)
                rest)
              else rest) Q) := by
  subst ho1 ho2 ho3
  by_cases h : peer c (zj t) = c
  · rw [dif_neg (fun hh => (hp.mp hh) h), show oweRow c (zj t) = 0 from if_pos h, add_zero]
    unfold sndIn sndOut
    rw [if_pos h]
    iintro ⟨-, HO, Hrow, -⟩ Hk
    iapply Hk
    isplitl [HO] <;> iassumption
  · rw [dif_pos (hp.mpr h)]
    simp only [Prog.lift, Prog.bind_op, Prog.bind_ret]
    iintro HIn Hk
    iapply (z_copy m K c t h (dv (hp.mpr h)) (hdv _) _ _ (sem_z_send t) (sem_z_recv (zOf c)) O) $$ HIn
    iintro HOut
    iapply Hk; iexact HOut

/-! ## The waits -/

/-- The wait for a received row: on a semaphore `q` that is the exchange's, by any row-sized view. -/
theorem rcv_wait (c : Dev nD) (j : Fin 12) (h : peer c j ≠ c) (q : DmaSem sig) (hq : q = recvSem j)
    (v w : Memref sig .tc .vmem S1x1024 .f32) (hN : v.view.dmaCredit = N)
    {h1 : w.view.WordExact} {h2 : v.view.WordExact}
    (O : CellTallies nD τ sig Unit) (hW : recs m K ⊢ MayWait (c : Thread nD τ) (.dma (recvSem j)) () O)
    {α : Type} {k : PUnit → Prog (TpuEff nD τ sig (Elt F) Λ₀ .tc) α} {Q : α → sProp 𝕄} :
    iprop(recs m K ∗ ow c O ∗ rcvIn c j)
      ⊢ iprop((ow c O ∗ rcvOut m c j -∗ wp frame (Run (F := F) c) Set.univ (k ⟨⟩) Q)
          -∗ wp frame (Run (F := F) c) Set.univ (.op (.waitDma2 q w v h1 h2) k) Q) := by
  subst hq
  have hk : 0 + v.view.dmaCredit = (Rd (F := F) m).expect (recvCell c j) 0 := by rw [Nat.zero_add, expect_recv m c j h]
  unfold ow rcvIn rcvOut rcvRow
  rw [if_neg h, if_neg h]
  iintro ⟨#HR, ⟨%W, HO⟩, Hat, Hc⟩ Hk
  iapply (Rounds.wp_wait_rest_token 𝒱₀ ER (Rd m) (c : Thread nD τ) none (κ := K (c, .inr (.inr j)))
      (wpE_waitDma2_eq 𝒱₀ (c : Thread nD τ) none Set.univ) (Set.mem_univ _) () (O := O) (W := W) (R := 0) (m := 0) (T := ∅)
      hk) $$ [Hc HO Hat]
  · isplitr; · iapply (inv_recv m K c j); iexact HR
    isplitl [Hc]; · rw [hN]; iexact Hc
    isplitl [HO]; · iexact HO
    isplitr; · iapply hW; iexact HR
    iexact Hat
  iintro ⟨HO, Hat, -, Hpay⟩
  ihave Hrow := (Entails.of_eq (rest_recv m c j h)) $$ Hpay
  imod (Rounds.cell_close ER (Rd m) (Set.mem_univ (K (c, .inr (.inr j)))) (fun h => h) (R := 0 + 1) (duties_later m (recvCell c j))) $$ [Hat] with Hz
  · isplitr; · iapply (inv_recv m K c j); iexact HR
    iexact Hat
  iapply Hk
  isplitl [HO]; · iexists _; iexact HO
  isplitl [Hrow] <;> iassumption

/-- The wait for a sent row. -/
theorem cmp_wait (c : Dev nD) (j : Fin 12) (h : peer c j ≠ c) (q : DmaSem sig) (hq : q = sendSem j)
    (v w : Memref sig .tc .vmem S1x1024 .f32) (hN : v.view.dmaCredit = N)
    {h1 : w.view.WordExact} {h2 : v.view.WordExact}
    {α : Type} {k : PUnit → Prog (TpuEff nD τ sig (Elt F) Λ₀ .tc) α} {Q : α → sProp 𝕄} :
    iprop(recs m K ∗ ow c 0 ∗ cmpIn m c j)
      ⊢ iprop((ow c 0 ∗ cmpOut m c j -∗ wp frame (Run (F := F) c) Set.univ (k ⟨⟩) Q)
          -∗ wp frame (Run (F := F) c) Set.univ (.op (.waitDma2 q w v h1 h2) k) Q) := by
  subst hq
  have hk : 0 + v.view.dmaCredit = (Rd (F := F) m).expect (sendCell c j) 0 := by rw [Nat.zero_add, expect_send m c j h]
  unfold ow cmpIn cmpOut sndOut
  rw [if_neg h]
  iintro ⟨#HR, ⟨%W, HO⟩, Hc, Hat⟩ Hk
  iapply (Rounds.wp_wait_rest_token 𝒱₀ ER (Rd m) (c : Thread nD τ) none (κ := K (c, .inr (.inl j)))
      (wpE_waitDma2_eq 𝒱₀ (c : Thread nD τ) none Set.univ) (Set.mem_univ _) () (O := 0) (W := W) (R := 0) (m := 0) (T := ∅)
      hk) $$ [Hc HO Hat]
  · isplitr; · iapply (inv_send m K c j); iexact HR
    isplitl [Hc]; · rw [hN]; iexact Hc
    isplitl [HO]; · iexact HO
    isplitr; · rw [MayWait_zero]; iempintro
    iexact Hat
  iintro ⟨HO, Hat, -, Hpay⟩
  ihave Hrow := (Entails.of_eq (rest_send m c j h)) $$ Hpay
  imod (Rounds.cell_close ER (Rd m) (Set.mem_univ (K (c, .inr (.inl j)))) (fun h => h) (R := 0 + 1) (duties_later m (sendCell c j))) $$ [Hat] with Hz
  · isplitr; · iapply (inv_send m K c j); iexact HR
    iexact Hat
  iapply Hk
  isplitl [HO]; · iexists _; iexact HO
  isplitl [Hrow] <;> iassumption

/-- The branch waiting for a received row, as the kernel spells it: semaphore `n` of an array, any row-sized view. -/
theorem rcv_step (c : Dev nD) (j : Fin 12) (p : Prop) [Decidable p] (hp : p ↔ peer c j ≠ c)
    (q : p → DmaSem sig) (hq : ∀ h, q h = recvSem j)
    (v w : p → Memref sig .tc .vmem S1x1024 .f32) (hN : ∀ h, (v h).view.dmaCredit = N)
    (h1 : ∀ h, (w h).view.WordExact) (h2 : ∀ h, (v h).view.WordExact)
    (O : CellTallies nD τ sig Unit) (hW : recs m K ⊢ MayWait (c : Thread nD τ) (.dma (recvSem j)) () O) {α : Type} (rest : Prog (TpuEff nD τ sig (Elt F) Λ₀ .tc) α) (Q : α → sProp 𝕄) :
    iprop(recs m K ∗ ow c O ∗ rcvIn c j)
      ⊢ iprop((ow c O ∗ rcvOut m c j -∗ wp frame (Run (F := F) c) Set.univ rest Q)
          -∗ wp frame (Run (F := F) c) Set.univ
              (if h : p then (do
                Prog.lift (.waitDma2 (q h) (w h) (v h) (h1 h) (h2 h))
                rest)
              else rest) Q) := by
  by_cases h : peer c j = c
  · rw [dif_neg (fun hh => (hp.mp hh) h)]
    unfold rcvIn rcvOut rcvRow
    rw [if_pos h, if_pos h]
    iintro ⟨#HR, HO, Hat, -⟩ Hk
    imod (Rounds.cell_close ER (Rd m) (Set.mem_univ (K (c, .inr (.inr j)))) (fun h => h) (R := 0) (duties_recv_own m c j h)) $$ [Hat] with Hz
    · isplitr; · iapply (inv_recv m K c j); iexact HR
      iexact Hat
    iapply Hk
    isplitl [HO]; · iexact HO
    isplitr; · iempintro
    iexact Hz
  · rw [dif_pos (hp.mpr h)]
    simp only [Prog.lift, Prog.bind_op, Prog.bind_ret]
    iintro HIn Hk
    iapply (rcv_wait m K c j h _ (hq (hp.mpr h)) _ _ (hN _) O hW) $$ HIn
    iintro HOut
    iapply Hk; iexact HOut

/-- The branch waiting for a sent row, as the kernel spells it. -/
theorem cmp_step (c : Dev nD) (j : Fin 12) (p : Prop) [Decidable p] (hp : p ↔ peer c j ≠ c)
    (q : p → DmaSem sig) (hq : ∀ h, q h = sendSem j)
    (v w : p → Memref sig .tc .vmem S1x1024 .f32) (hN : ∀ h, (v h).view.dmaCredit = N)
    (h1 : ∀ h, (w h).view.WordExact) (h2 : ∀ h, (v h).view.WordExact) {α : Type} (rest : Prog (TpuEff nD τ sig (Elt F) Λ₀ .tc) α) (Q : α → sProp 𝕄) :
    iprop(recs m K ∗ ow c 0 ∗ cmpIn m c j)
      ⊢ iprop((ow c 0 ∗ cmpOut m c j -∗ wp frame (Run (F := F) c) Set.univ rest Q)
          -∗ wp frame (Run (F := F) c) Set.univ
              (if h : p then (do
                Prog.lift (.waitDma2 (q h) (w h) (v h) (h1 h) (h2 h))
                rest)
              else rest) Q) := by
  by_cases h : peer c j = c
  · rw [dif_neg (fun hh => (hp.mp hh) h)]
    unfold cmpIn cmpOut sndOut
    rw [if_pos h]
    iintro ⟨#HR, HO, Hrow, Hat⟩ Hk
    imod (Rounds.cell_close ER (Rd m) (Set.mem_univ (K (c, .inr (.inl j)))) (fun h => h) (R := 0) (duties_send_own m c j h)) $$ [Hat] with Hz
    · isplitr; · iapply (inv_send m K c j); iexact HR
      iexact Hat
    iapply Hk
    isplitl [HO]; · iexact HO
    isplitl [Hrow] <;> iassumption
  · rw [dif_pos (hp.mpr h)]
    simp only [Prog.lift, Prog.bind_op, Prog.bind_ret]
    iintro HIn Hk
    iapply (cmp_wait m K c j h _ (hq (hp.mpr h)) _ _ (hN _)) $$ HIn
    iintro HOut
    iapply Hk; iexact HOut

/-! The waits at the semaphores of the four arrays. -/

/-- The wait of an arrival in the plane, at the plane's semaphore array. -/
theorem a_rcv_step (c : Dev nD) (t : Fin 8) (p : Prop) [Decidable p] (hp : p ↔ peer c (aj t) ≠ c)
    (o : Fin 1 → ℕ) (ho : o = ![t.val]) (i : ∀ a, o a + S1.size a ≤ S8.size a)
    (v w : p → Memref sig .tc .vmem S1x1024 .f32)
    (h1 : ∀ h, (w h).view.WordExact) (h2 : ∀ h, (v h).view.WordExact) (O : CellTallies nD τ sig Unit) (hW : recs m K ⊢ MayWait (c : Thread nD τ) (.dma (recvSem (aj t))) () O)
    {α : Type} (rest : Prog (TpuEff nD τ sig (Elt F) Λ₀ .tc) α) (Q : α → sProp 𝕄) :
    iprop(recs m K ∗ ow c O ∗ rcvIn c (aj t))
      ⊢ iprop((ow c O ∗ rcvOut m c (aj t) -∗ wp frame (Run (F := F) c) Set.univ rest Q)
          -∗ wp frame (Run (F := F) c) Set.univ
              (if h : p then (do
                Prog.lift (.waitDma2 (((cc0_scratch3 : DmaSems sig S8).slice (Rect.unit (s := S8) o S1.size i)).squeeze S_ squeezes_S1_S_).sem (w h) (v h) (h1 h) (h2 h))
                rest)
              else rest) Q) := by
  subst ho
  exact rcv_step m K c (aj t) p hp _ (fun _ => sem_a_recv t) v w (fun _ => rfl) h1 h2 O hW rest Q

/-- The wait of an arrival in the line, at the line's semaphore array. -/
theorem z_rcv_step (c : Dev nD) (t : Fin 4) (p : Prop) [Decidable p] (hp : p ↔ peer c (zj t) ≠ c)
    (o : Fin 1 → ℕ) (ho : o = ![t.val]) (i : ∀ a, o a + S1.size a ≤ S4.size a)
    (v w : p → Memref sig .tc .vmem S1x1024 .f32)
    (h1 : ∀ h, (w h).view.WordExact) (h2 : ∀ h, (v h).view.WordExact) (O : CellTallies nD τ sig Unit) (hW : recs m K ⊢ MayWait (c : Thread nD τ) (.dma (recvSem (zj t))) () O)
    {α : Type} (rest : Prog (TpuEff nD τ sig (Elt F) Λ₀ .tc) α) (Q : α → sProp 𝕄) :
    iprop(recs m K ∗ ow c O ∗ rcvIn c (zj t))
      ⊢ iprop((ow c O ∗ rcvOut m c (zj t) -∗ wp frame (Run (F := F) c) Set.univ rest Q)
          -∗ wp frame (Run (F := F) c) Set.univ
              (if h : p then (do
                Prog.lift (.waitDma2 (((cc0_scratch5 : DmaSems sig S4).slice (Rect.unit (s := S4) o S1.size i)).squeeze S_ squeezes_S1_S_).sem (w h) (v h) (h1 h) (h2 h))
                rest)
              else rest) Q) := by
  subst ho
  exact rcv_step m K c (zj t) p hp _ (fun _ => sem_z_recv t) v w (fun _ => rfl) h1 h2 O hW rest Q

/-- The wait of a send in the plane, at the plane's semaphore array. -/
theorem a_cmp_step (c : Dev nD) (t : Fin 8) (p : Prop) [Decidable p] (hp : p ↔ peer c (aj t) ≠ c)
    (o : Fin 1 → ℕ) (ho : o = ![t.val]) (i : ∀ a, o a + S1.size a ≤ S8.size a)
    (v w : p → Memref sig .tc .vmem S1x1024 .f32)
    (h1 : ∀ h, (w h).view.WordExact) (h2 : ∀ h, (v h).view.WordExact)
    {α : Type} (rest : Prog (TpuEff nD τ sig (Elt F) Λ₀ .tc) α) (Q : α → sProp 𝕄) :
    iprop(recs m K ∗ ow c 0 ∗ cmpIn m c (aj t))
      ⊢ iprop((ow c 0 ∗ cmpOut m c (aj t) -∗ wp frame (Run (F := F) c) Set.univ rest Q)
          -∗ wp frame (Run (F := F) c) Set.univ
              (if h : p then (do
                Prog.lift (.waitDma2 (((cc0_scratch2 : DmaSems sig S8).slice (Rect.unit (s := S8) o S1.size i)).squeeze S_ squeezes_S1_S_).sem (w h) (v h) (h1 h) (h2 h))
                rest)
              else rest) Q) := by
  subst ho
  exact cmp_step m K c (aj t) p hp _ (fun _ => sem_a_send t) v w (fun _ => rfl) h1 h2 rest Q

/-- The wait of a send in the line, at the line's semaphore array. -/
theorem z_cmp_step (c : Dev nD) (t : Fin 4) (p : Prop) [Decidable p] (hp : p ↔ peer c (zj t) ≠ c)
    (o : Fin 1 → ℕ) (ho : o = ![t.val]) (i : ∀ a, o a + S1.size a ≤ S4.size a)
    (v w : p → Memref sig .tc .vmem S1x1024 .f32)
    (h1 : ∀ h, (w h).view.WordExact) (h2 : ∀ h, (v h).view.WordExact)
    {α : Type} (rest : Prog (TpuEff nD τ sig (Elt F) Λ₀ .tc) α) (Q : α → sProp 𝕄) :
    iprop(recs m K ∗ ow c 0 ∗ cmpIn m c (zj t))
      ⊢ iprop((ow c 0 ∗ cmpOut m c (zj t) -∗ wp frame (Run (F := F) c) Set.univ rest Q)
          -∗ wp frame (Run (F := F) c) Set.univ
              (if h : p then (do
                Prog.lift (.waitDma2 (((cc0_scratch4 : DmaSems sig S4).slice (Rect.unit (s := S4) o S1.size i)).squeeze S_ squeezes_S1_S_).sem (w h) (v h) (h1 h) (h2 h))
                rest)
              else rest) Q) := by
  subst ho
  exact cmp_step m K c (zj t) p hp _ (fun _ => sem_z_send t) v w (fun _ => rfl) h1 h2 rest Q

end Cert.MeanProof

end
-- ==== Proof.Rows.lean ====
/-
The two gather buffers through the run: a device's own row is written and lent out in shares, the rows it
receives complete the buffer, and at the end the lent shares make it whole again. With the steps that load and
store them, and the wait at the barrier.
-/
module

public import proofs.«01_k».proof.Proof.Steps

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families with one member apart -/

omit [FloatOps F] in
/-- Nothing beside a holding is the holding. -/
theorem emp_left (P : sProp 𝕄) : iprop(emp ∗ P) = P :=
  BI.Entails.antisymm (show iprop(emp ∗ P) ⊢ P by iintro ⟨-, H⟩; iexact H)
    (show P ⊢ iprop(emp ∗ P) by iintro H; isplitr; · iempintro
                                iexact H)
omit [FloatOps F] in
/-- Holdings regroup. -/
theorem assoc_eq (P Q R : sProp 𝕄) : iprop(P ∗ Q ∗ R) = iprop((P ∗ Q) ∗ R) :=
  BI.Entails.antisymm
    (show iprop(P ∗ Q ∗ R) ⊢ iprop((P ∗ Q) ∗ R) by
      iintro ⟨H1, H2, H3⟩; isplitl [H1 H2]
      · isplitl [H1] <;> iassumption
      · iexact H3)
    (show iprop((P ∗ Q) ∗ R) ⊢ iprop(P ∗ Q ∗ R) by
      iintro ⟨⟨H1, H2⟩, H3⟩; isplitl [H1]; · iexact H1
      isplitl [H2] <;> iassumption)

omit [FloatOps F] in
/-- A family is one member beside the others. -/
theorem apart {n : ℕ} (i : Fin n) (X : Fin n → sProp 𝕄) :
    bigSep Finset.univ X = iprop(X i ∗ bigSep Finset.univ fun t => if t = i then iprop(emp) else X t) := by
  have h : (bigSep Finset.univ fun t => if t = i then (iprop(emp) : sProp 𝕄) else X t) = bigSep (Finset.univ.erase i) X := by
    rw [bigSep_univ_at _ i, if_pos rfl, emp_left]
    exact bigSep_congr fun t ht => if_neg (Finset.ne_of_mem_erase ht)
  rw [h]; exact bigSep_univ_at X i

omit [FloatOps F] in
/-- If every member splits in two, one member's first part beside the other members whole is all first parts beside
    the others' second parts. -/
theorem apart_split {n : ℕ} (i : Fin n) (X Y Z : Fin n → sProp 𝕄) (h : ∀ t, X t = iprop(Y t ∗ Z t)) :
    iprop(Y i ∗ bigSep Finset.univ fun t => if t = i then iprop(emp) else X t)
      = iprop(bigSep Finset.univ Y ∗ bigSep Finset.univ fun t => if t = i then iprop(emp) else Z t) := by
  have h' : ∀ t, (if t = i then (iprop(emp) : sProp 𝕄) else X t) = iprop((if t = i then iprop(emp) else Y t) ∗ (if t = i then iprop(emp) else Z t)) := fun t => by
    by_cases ht : t = i
    · rw [if_pos ht, if_pos ht, if_pos ht, emp_left]
    · rw [if_neg ht, if_neg ht, if_neg ht, h]
  rw [bigSep_congr fun t _ => h' t, bigSep_sep', apart i Y]
  exact assoc_eq _ _ _

/-! ## Shares of rows and of buffers -/

omit [FloatOps F] in
/-- A whole holding is its two halves. -/
theorem halves {ℓ : Loc nD τ sig} (I : Finset (Idx ℓ)) (f : Buf (Elt F) ℓ) :
    (ℓ ↦[I]{fullShare} f : sProp 𝕄) = iprop((ℓ ↦[I]{qL} f) ∗ (ℓ ↦[I]{qR} f)) :=
  BI.Entails.antisymm (pointsTo_share (PosShare.mem_left_op_right _)).1 (pointsTo_share (PosShare.mem_left_op_right _)).2

omit [FloatOps F] in
/-- A row of the plane's buffer is its two halves. -/
theorem aPts_halves (c : Dev nD) (t : Fin 8) (f) : (aPts (F := F) c t fullShare f) = iprop(aPts c t qL f ∗ aPts c t qR f) := halves _ _
omit [FloatOps F] in
/-- A row of the line's buffer is its two halves. -/
theorem zPts_halves (c : Dev nD) (t : Fin 4) (f) : (zPts (F := F) c t fullShare f) = iprop(zPts c t qL f ∗ zPts c t qR f) := halves _ _

omit [FloatOps F] in
/-- The plane's buffer is its eight rows. -/
theorem rows_a (c : Dev nD) (q : PosShare TreeShare) (f : (cc0_scratch0 : Ref sig .tc).ty.Contents (Elt F)) :
    (((c : Thread nD τ).loc cc0_scratch0) ↦{q} f : sProp 𝕄) = bigSep Finset.univ fun t => aPts c t q f := by
  unfold aPts
  rw [show (Finset.univ : Finset (Idx ((c : Thread nD τ).loc cc0_scratch0))) = (Finset.univ : Finset (Fin 8)).biUnion (fun t => (aRow t).view.set) from by
    rw [← aRect_cover]; exact Finset.biUnion_congr rfl fun t _ => (aRow_set t).symm]
  exact pointsTo_biUnion _ _ fun t _ u _ h => by rw [aRow_set, aRow_set]; exact aRect_disjoint t u h
omit [FloatOps F] in
/-- The line's buffer is its four rows. -/
theorem rows_z (c : Dev nD) (q : PosShare TreeShare) (f : (cc0_scratch1 : Ref sig .tc).ty.Contents (Elt F)) :
    (((c : Thread nD τ).loc cc0_scratch1) ↦{q} f : sProp 𝕄) = bigSep Finset.univ fun t => zPts c t q f := by
  unfold zPts
  rw [show (Finset.univ : Finset (Idx ((c : Thread nD τ).loc cc0_scratch1))) = (Finset.univ : Finset (Fin 4)).biUnion (fun t => (zRow t).view.set) from by
    rw [← zRect_cover]; exact Finset.biUnion_congr rfl fun t _ => (zRow_set t).symm]
  exact pointsTo_biUnion _ _ fun t _ u _ h => by rw [zRow_set, zRow_set]; exact zRect_disjoint t u h

/-- The shares of a device's own plane row lent to its copies, and of its line row. -/
def lentA (c : Dev nD) : sProp 𝕄 := bigSep Finset.univ fun t : Fin 8 => rowPts m c (bk c (aj t)) (lq (aj t))
/-- The shares of its own row that a device lends to the line's copies. -/
def lentZ (c : Dev nD) : sProp 𝕄 := bigSep Finset.univ fun t : Fin 4 => rowPts m c (bk c (zj t)) (lq (zj t))
/-- The half of the received rows a device does not load through. -/
def keptA (c : Dev nD) : sProp 𝕄 := bigSep Finset.univ fun t : Fin 8 => if t = sOf c then iprop(emp) else aPts c t qR (AG m c)
/-- The second halves of the rows that came in from the line. -/
def keptZ (c : Dev nD) : sProp 𝕄 := bigSep Finset.univ fun t : Fin 4 => if t = zOf c then iprop(emp) else zPts c t qR (ZG m c)

/-- The shares lent to the plane's copies are the second half of the device's own row. -/
theorem lentA_eq (c : Dev nD) : lentA m c = aPts c (sOf c) qR (AG m c) := by
  unfold lentA aPts
  rw [pointsTo_leaves _ _ 3 qR]
  refine bigSep_congr fun t _ => ?_
  rw [bk_aj, rowPts_a, lq_a]; rfl
/-- The shares lent to the line's copies are the second half of the device's own row. -/
theorem lentZ_eq (c : Dev nD) : lentZ m c = zPts c (zOf c) qR (ZG m c) := by
  unfold lentZ zPts
  rw [pointsTo_leaves _ _ 2 qR]
  refine bigSep_congr fun t _ => ?_
  rw [bk_zj, rowPts_z, lq_z]; rfl

/-- A device's own row of the plane's buffer is its first half beside the shares lent. -/
theorem lend_a (c : Dev nD) : aPts c (sOf c) fullShare (AG m c) = iprop(aPts c (sOf c) qL (AG m c) ∗ lentA m c) := by
  rw [lentA_eq]; exact aPts_halves _ _ _
/-- A device's own row of the line's buffer is its first half beside the shares lent. -/
theorem lend_z (c : Dev nD) : zPts c (zOf c) fullShare (ZG m c) = iprop(zPts c (zOf c) qL (ZG m c) ∗ lentZ m c) := by
  rw [lentZ_eq]; exact zPts_halves _ _ _

/-- The own row's first half and the rows that came in are the first half of the whole plane buffer, and the second
    halves kept. -/
theorem gather_a (c : Dev nD) : iprop(aPts c (sOf c) qL (AG m c) ∗ bigSep Finset.univ fun t : Fin 8 => rcvRow m c (aj t))
    = iprop((((c : Thread nD τ).loc cc0_scratch0) ↦{qL} AG m c) ∗ keptA m c) := by
  rw [rows_a]; unfold keptA
  rw [← apart_split (sOf c) (fun t => aPts c t fullShare (AG m c)) (fun t => aPts c t qL (AG m c)) (fun t => aPts c t qR (AG m c)) fun t => aPts_halves c t _]
  congr 1
  refine bigSep_congr fun t _ => ?_
  unfold rcvRow
  by_cases h : t = sOf c
  · rw [if_pos h, if_pos ((own_aj c t).mpr h)]
  · rw [if_neg h, if_neg (fun hh => h ((own_aj c t).mp hh)), rowPts_a]
/-- The own row's first half and the rows that came in are the first half of the whole line buffer, and the second
    halves kept. -/
theorem gather_z (c : Dev nD) : iprop(zPts c (zOf c) qL (ZG m c) ∗ bigSep Finset.univ fun t : Fin 4 => rcvRow m c (zj t))
    = iprop((((c : Thread nD τ).loc cc0_scratch1) ↦{qL} ZG m c) ∗ keptZ m c) := by
  rw [rows_z]; unfold keptZ
  rw [← apart_split (zOf c) (fun t => zPts c t fullShare (ZG m c)) (fun t => zPts c t qL (ZG m c)) (fun t => zPts c t qR (ZG m c)) fun t => zPts_halves c t _]
  congr 1
  refine bigSep_congr fun t _ => ?_
  unfold rcvRow
  by_cases h : t = zOf c
  · rw [if_pos h, if_pos ((own_zj c t).mpr h)]
  · rw [if_neg h, if_neg (fun hh => h ((own_zj c t).mp hh)), rowPts_z]

/-- With the lent shares back the plane's buffer is held whole. -/
theorem back_a (c : Dev nD) : iprop((((c : Thread nD τ).loc cc0_scratch0) ↦{qL} AG m c) ∗ keptA m c ∗ lentA m c)
    ⊢ (((c : Thread nD τ).loc cc0_scratch0) ↦{fullShare} AG m c : sProp 𝕄) := by
  rw [halves, rows_a c qR, apart (sOf c) fun t => aPts c t qR (AG m c), lentA_eq]; unfold keptA
  iintro ⟨H1, H2, H3⟩
  isplitl [H1]; · iexact H1
  isplitl [H3] <;> iassumption
/-- With the lent shares back the line's buffer is held whole. -/
theorem back_z (c : Dev nD) : iprop((((c : Thread nD τ).loc cc0_scratch1) ↦{qL} ZG m c) ∗ keptZ m c ∗ lentZ m c)
    ⊢ (((c : Thread nD τ).loc cc0_scratch1) ↦{fullShare} ZG m c : sProp 𝕄) := by
  rw [halves, rows_z c qR, apart (zOf c) fun t => zPts c t qR (ZG m c), lentZ_eq]; unfold keptZ
  iintro ⟨H1, H2, H3⟩
  isplitl [H1]; · iexact H1
  isplitl [H3] <;> iassumption

/-! ## Loads and stores -/

omit [FloatOps F] in
/-- The offsets of a whole buffer's access are zero. -/
theorem hz : (![0, 0] : Fin 2 → Nat) = fun _ => 0 := funext fun a => by fin_cases a <;> rfl

omit [FloatOps F] in
/-- A read of the whole staged argument is its contents. -/
theorem read_x (f : (cc0_stg0_0 : Ref sig .tc).ty.Contents (Elt F)) (i : ∀ a, (![0, 0] : Fin 2 → ℕ) a + S2048x1024.size a ≤ S2048x1024.size a) :
    (xM : Memref sig .tc .vmem S2048x1024 .f32).view.readAt (Elt F) (Rect.unit (s := S2048x1024) ![0, 0] S2048x1024.size i).toLoadRect f = f :=
  Memref.readAt_unit_zero (Elt F) cc0_stg0_0 hz _ f
omit [FloatOps F] in
/-- A read of the whole plane buffer is its contents. -/
theorem read_a (f : (cc0_scratch0 : Ref sig .tc).ty.Contents (Elt F)) (i : ∀ a, (![0, 0] : Fin 2 → ℕ) a + S8x1024.size a ≤ S8x1024.size a) :
    (aM : Memref sig .tc .vmem S8x1024 .f32).view.readAt (Elt F) (Rect.unit (s := S8x1024) ![0, 0] S8x1024.size i).toLoadRect f = f :=
  Memref.readAt_unit_zero (Elt F) cc0_scratch0 hz _ f
omit [FloatOps F] in
/-- A read of the whole line buffer is its contents. -/
theorem read_z (f : (cc0_scratch1 : Ref sig .tc).ty.Contents (Elt F)) (i : ∀ a, (![0, 0] : Fin 2 → ℕ) a + S4x1024.size a ≤ S4x1024.size a) :
    (zM : Memref sig .tc .vmem S4x1024 .f32).view.readAt (Elt F) (Rect.unit (s := S4x1024) ![0, 0] S4x1024.size i).toLoadRect f = f :=
  Memref.readAt_unit_zero (Elt F) cc0_scratch1 hz _ f
omit [FloatOps F] in
/-- A store over the whole staged result leaves what is stored. -/
theorem write_o (f w : (cc0_stg1_0 : Ref sig .tc).ty.Contents (Elt F)) (i : ∀ a, (![0, 0] : Fin 2 → ℕ) a + S1x1024.size a ≤ S1x1024.size a) :
    (oM.access (Rect.unit (s := S1x1024) ![0, 0] S1x1024.size i) : View sig .tc _ _ _).write (Elt F) f w Finset.univ = w :=
  Memref.write_access_unit_zero_univ (Elt F) cc0_stg1_0 hz _ f w

section Steps
variable {α : Type}

/-- A load of the whole staged argument, at any share. -/
theorem x_load (Q : α → sProp 𝕄) (c : Dev nD) (q : PosShare TreeShare) (f : (cc0_stg0_0 : Ref sig .tc).ty.Contents (Elt F))
    (i : ∀ a, (![0, 0] : Fin 2 → ℕ) a + S2048x1024.size a ≤ S2048x1024.size a)
    (hl : xM.view.LoadsAt (Rect.unit (s := S2048x1024) ![0, 0] S2048x1024.size i).toLoadRect)
    (k : Vec F S2048x1024 .f32 → Prog (TpuEff nD τ sig (Elt F) Λ₀ .tc) α) :
    (((c : Thread nD τ).loc cc0_stg0_0) ↦{q} f : sProp 𝕄)
      ⊢ iprop(((((c : Thread nD τ).loc cc0_stg0_0) ↦{q} f) -∗ wp frame (Run (F := F) c) Set.univ (k f) Q)
          -∗ wp frame (Run (F := F) c) Set.univ
              (Prog.lift (.load xM (Rect.unit (s := S2048x1024) ![0, 0] S2048x1024.size i).toLoadRect hl) >>= k) Q) := by
  simp only [Prog.lift, Prog.bind_op, Prog.bind_ret]
  iintro H Hk
  iapply (wp_load 𝒱₀ (c : Thread nD τ) none Set.univ (m := xM) (Finset.subset_univ _)) $$ H; iintro H
  rw [read_x]
  iapply Hk; iexact H

/-- A load of the whole plane buffer, at any share. -/
theorem a_load (Q : α → sProp 𝕄) (c : Dev nD) (q : PosShare TreeShare) (f : (cc0_scratch0 : Ref sig .tc).ty.Contents (Elt F))
    (i : ∀ a, (![0, 0] : Fin 2 → ℕ) a + S8x1024.size a ≤ S8x1024.size a)
    (hl : aM.view.LoadsAt (Rect.unit (s := S8x1024) ![0, 0] S8x1024.size i).toLoadRect)
    (k : Vec F S8x1024 .f32 → Prog (TpuEff nD τ sig (Elt F) Λ₀ .tc) α) :
    (((c : Thread nD τ).loc cc0_scratch0) ↦{q} f : sProp 𝕄)
      ⊢ iprop(((((c : Thread nD τ).loc cc0_scratch0) ↦{q} f) -∗ wp frame (Run (F := F) c) Set.univ (k f) Q)
          -∗ wp frame (Run (F := F) c) Set.univ
              (Prog.lift (.load aM (Rect.unit (s := S8x1024) ![0, 0] S8x1024.size i).toLoadRect hl) >>= k) Q) := by
  simp only [Prog.lift, Prog.bind_op, Prog.bind_ret]
  iintro H Hk
  iapply (wp_load 𝒱₀ (c : Thread nD τ) none Set.univ (m := aM) (Finset.subset_univ _)) $$ H; iintro H
  rw [read_a]
  iapply Hk; iexact H

/-- A load of the whole line buffer, at any share. -/
theorem z_load (Q : α → sProp 𝕄) (c : Dev nD) (q : PosShare TreeShare) (f : (cc0_scratch1 : Ref sig .tc).ty.Contents (Elt F))
    (i : ∀ a, (![0, 0] : Fin 2 → ℕ) a + S4x1024.size a ≤ S4x1024.size a)
    (hl : zM.view.LoadsAt (Rect.unit (s := S4x1024) ![0, 0] S4x1024.size i).toLoadRect)
    (k : Vec F S4x1024 .f32 → Prog (TpuEff nD τ sig (Elt F) Λ₀ .tc) α) :
    (((c : Thread nD τ).loc cc0_scratch1) ↦{q} f : sProp 𝕄)
      ⊢ iprop(((((c : Thread nD τ).loc cc0_scratch1) ↦{q} f) -∗ wp frame (Run (F := F) c) Set.univ (k f) Q)
          -∗ wp frame (Run (F := F) c) Set.univ
              (Prog.lift (.load zM (Rect.unit (s := S4x1024) ![0, 0] S4x1024.size i).toLoadRect hl) >>= k) Q) := by
  simp only [Prog.lift, Prog.bind_op, Prog.bind_ret]
  iintro H Hk
  iapply (wp_load 𝒱₀ (c : Thread nD τ) none Set.univ (m := zM) (Finset.subset_univ _)) $$ H; iintro H
  rw [read_z]
  iapply Hk; iexact H

/-- The result's load, which nothing reads, and store. -/
theorem o_store (Q : α → sProp 𝕄) (c : Dev nD) (f w : (cc0_stg1_0 : Ref sig .tc).ty.Contents (Elt F))
    (i : ∀ a, (![0, 0] : Fin 2 → ℕ) a + S1x1024.size a ≤ S1x1024.size a)
    (hl : oM.view.LoadsAt (Rect.unit (s := S1x1024) ![0, 0] S1x1024.size i).toLoadRect)
    (hx : (oM.access (Rect.unit (s := S1x1024) ![0, 0] S1x1024.size i)).Stores Finset.univ) (hm)
    (rest : Prog (TpuEff nD τ sig (Elt F) Λ₀ .tc) α) :
    (((c : Thread nD τ).loc cc0_stg1_0) ↦{fullShare} f : sProp 𝕄)
      ⊢ iprop(((((c : Thread nD τ).loc cc0_stg1_0) ↦{fullShare} w) -∗ wp frame (Run (F := F) c) Set.univ rest Q)
          -∗ wp frame (Run (F := F) c) Set.univ
              (do
                let v ← Prog.lift (.load oM (Rect.unit (s := S1x1024) ![0, 0] S1x1024.size i).toLoadRect hl)
                Prog.lift (.store oM (Rect.unit (s := S1x1024) ![0, 0] S1x1024.size i) w Finset.univ hx hm)
                rest) Q) := by
  simp only [Prog.lift, Prog.bind_op, Prog.bind_ret]
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S1x1024) ![0, 0] S1x1024.size i) (Mk := Finset.univ) (Finset.subset_univ _)) $$ H; iintro H
  rw [write_o]
  iapply Hk; iexact H

/-- The own plane row's load, which nothing reads, and store. -/
theorem a_store (Q : α → sProp 𝕄) (c : Dev nD) (f : (cc0_scratch0 : Ref sig .tc).ty.Contents (Elt F))
    (o : Fin 2 → ℕ) (ho : o = ![(sOf c).val, 0]) (i : ∀ a, o a + S1x1024.size a ≤ S8x1024.size a)
    (hl : aM.view.LoadsAt (Rect.unit (s := S8x1024) o S1x1024.size i).toLoadRect)
    (hx : (aM.access (Rect.unit (s := S8x1024) o S1x1024.size i)).Stores Finset.univ) (hm)
    (rest : Prog (TpuEff nD τ sig (Elt F) Λ₀ .tc) α) :
    aPts c (sOf c) fullShare f
      ⊢ iprop((aPts c (sOf c) fullShare (AG m c) -∗ wp frame (Run (F := F) c) Set.univ rest Q)
          -∗ wp frame (Run (F := F) c) Set.univ
              (do
                let v ← Prog.lift (.load aM (Rect.unit (s := S8x1024) o S1x1024.size i).toLoadRect hl)
                Prog.lift (.store aM (Rect.unit (s := S8x1024) o S1x1024.size i) (part m c) Finset.univ hx hm)
                rest) Q) := by
  subst ho
  simp only [Prog.lift, Prog.bind_op, Prog.bind_ret]
  have hw : ((aRow (sOf c)).view.loc (c : Thread nD τ) ↦[(aRow (sOf c)).view.set]{fullShare}
      ((aM.access (aRect (sOf c)) : View sig .tc _ _ _).write (Elt F) f (part m c) Finset.univ) : sProp 𝕄) = aPts c (sOf c) fullShare (AG m c) := by
    unfold aPts
    refine pointsTo_congr fun i hi => ?_
    obtain ⟨y, -, rfl⟩ := Finset.mem_map.mp hi
    have h1 := View.write_emb_of_mem (v := (aM.access (aRect (sOf c)) : View sig .tc _ _ _)) (Val := Elt F) f (part m c) (Finset.mem_univ y)
    refine h1.trans ?_
    rw [← AG_own]; rfl
  unfold aPts at hw ⊢
  iintro H Hk
  iapply (wp_load_rect 𝒱₀ (c : Thread nD τ) none Set.univ (m := aM) (r := aRect (sOf c)) (subset_refl _)) $$ H; iintro H
  iapply (wp_store 𝒱₀ (c : Thread nD τ) none Set.univ (m := aM) (r := aRect (sOf c)) (Mk := Finset.univ)
    (by rw [View.setOn_univ])) $$ H; iintro H
  iapply Hk
  iapply (Entails.of_eq hw); iexact H

/-- The own line row's load, which nothing reads, and store. -/
theorem z_store (Q : α → sProp 𝕄) (c : Dev nD) (f : (cc0_scratch1 : Ref sig .tc).ty.Contents (Elt F))
    (o : Fin 2 → ℕ) (ho : o = ![(zOf c).val, 0]) (i : ∀ a, o a + S1x1024.size a ≤ S4x1024.size a)
    (hl : zM.view.LoadsAt (Rect.unit (s := S4x1024) o S1x1024.size i).toLoadRect)
    (hx : (zM.access (Rect.unit (s := S4x1024) o S1x1024.size i)).Stores Finset.univ) (hm)
    (rest : Prog (TpuEff nD τ sig (Elt F) Λ₀ .tc) α) :
    zPts c (zOf c) fullShare f
      ⊢ iprop((zPts c (zOf c) fullShare (ZG m c) -∗ wp frame (Run (F := F) c) Set.univ rest Q)
          -∗ wp frame (Run (F := F) c) Set.univ
              (do
                let v ← Prog.lift (.load zM (Rect.unit (s := S4x1024) o S1x1024.size i).toLoadRect hl)
                Prog.lift (.store zM (Rect.unit (s := S4x1024) o S1x1024.size i) (plane m c) Finset.univ hx hm)
                rest) Q) := by
  subst ho
  simp only [Prog.lift, Prog.bind_op, Prog.bind_ret]
  have hw : ((zRow (zOf c)).view.loc (c : Thread nD τ) ↦[(zRow (zOf c)).view.set]{fullShare}
      ((zM.access (zRect (zOf c)) : View sig .tc _ _ _).write (Elt F) f (plane m c) Finset.univ) : sProp 𝕄) = zPts c (zOf c) fullShare (ZG m c) := by
    unfold zPts
    refine pointsTo_congr fun i hi => ?_
    obtain ⟨y, -, rfl⟩ := Finset.mem_map.mp hi
    have h1 := View.write_emb_of_mem (v := (zM.access (zRect (zOf c)) : View sig .tc _ _ _)) (Val := Elt F) f (plane m c) (Finset.mem_univ y)
    refine h1.trans ?_
    rw [← ZG_own]; rfl
  unfold zPts at hw ⊢
  iintro H Hk
  iapply (wp_load_rect 𝒱₀ (c : Thread nD τ) none Set.univ (m := zM) (r := zRect (zOf c)) (subset_refl _)) $$ H; iintro H
  iapply (wp_store 𝒱₀ (c : Thread nD τ) none Set.univ (m := zM) (r := zRect (zOf c)) (Mk := Finset.univ)
    (by rw [View.setOn_univ])) $$ H; iintro H
  iapply Hk
  iapply (Entails.of_eq hw); iexact H

/-! ## The barrier -/

/-- Before the wait at the barrier: the claim on ten signals. -/
def barIn (c : Dev nD) : sProp 𝕄 := iprop(atPos ER (barCell c) 0 ∅ 0 ∗ cred (tallyAt (barCell c) () 10))

/-- The barrier's wait: ten signals bring the other devices' rows, and the counter is back at zero. -/
theorem bar_step (Q : α → sProp 𝕄) (K : Dev nD × CI → ℕ) (c : Dev nD) (l : List (Fin 12)) (rest : Prog (TpuEff nD τ sig (Elt F) Λ₀ .tc) α) :
    iprop(recs m K ∗ ow c (rowsFrom c l) ∗ barIn c)
      ⊢ iprop((ow c (rowsFrom c l) ∗ semVal (barCell c) 0 ∗ (bigSep Finset.univ fun j : Fin 12 => land c j) -∗ wp frame (Run (F := F) c) Set.univ rest Q)
          -∗ wp frame (Run (F := F) c) Set.univ
              (do
                semWaitWord barS 10#32
                rest) Q) := by
  have hk : 0 + (10#32 : BitVec 32).toInt.toNat = (Rd (F := F) m).expect (barCell c) 0 := by rw [expect_bar, Nat.zero_add]; rfl
  have hW : recs m K ⊢ MayWait (c : Thread nD τ) (.reg barS) () (rowsFrom c l) := recs_wait m K (mayWait_bar c l)
  unfold ow barIn
  simp only [semWaitWord, Prog.lift, Prog.bind_op, Prog.bind_ret]
  iintro ⟨#HR, ⟨%W, HO⟩, Hat, Hc⟩ Hk
  iapply (Rounds.wp_wait_rest_token 𝒱₀ ER (Rd m) (c : Thread nD τ) none (κ := K (c, .inl ()))
      (wpE_semWait_eq 𝒱₀ (c : Thread nD τ) none Set.univ) (Set.mem_univ _) () (O := rowsFrom c l) (W := W) (R := 0) (m := 0) (T := ∅)
      hk) $$ [Hc HO Hat]
  · isplitr; · iapply (inv_bar m K c); iexact HR
    isplitl [Hc]; · iexact Hc
    isplitl [HO]; · iexact HO
    isplitr; · iapply hW; iexact HR
    iexact Hat
  iintro ⟨HO, Hat, -, Hpay⟩
  ihave Hland := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (inv_bar m K c); iexact HR
    iexact Hat
  iapply Hk
  isplitl [HO]; · iexists _; iexact HO
  isplitl [Hz] <;> iassumption

end Steps

end Cert.MeanProof

end
-- ==== Proof.Body.lean ====
/-
The kernel's body, part by part and then whole, at any device: what the device holds before each part and after it.
-/
module

public import proofs.«01_k».proof.Proof.Rows

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ)

/-! ## The exchanges in order -/

/-- A plane's exchanges in order. -/
abbrev plane8 : List (Fin 12) := [aj 0, aj 1, aj 2, aj 3, aj 4, aj 5, aj 6, aj 7]
/-- A line's exchanges in order. -/
abbrev line4 : List (Fin 12) := [zj 0, zj 1, zj 2, zj 3]

/-- What is owed of a list: its first beside the rest. -/
theorem owe_cons (f : Fin 12 → CellTallies nD τ sig Unit) (O : CellTallies nD τ sig Unit) (j : Fin 12) (l : List (Fin 12)) :
    owe f O (j :: l) = owe f O l + f j := rfl
/-- What is owed of an empty list is what was owed before. -/
theorem owe_nil (f : Fin 12 → CellTallies nD τ sig Unit) (O : CellTallies nD τ sig Unit) : owe f O [] = O := rfl
/-- What is owed for the copies of a list: the first's beside the rest's. -/
theorem rowsFrom_cons (c : Dev nD) (j : Fin 12) (l : List (Fin 12)) : rowsFrom c (j :: l) = rowsFrom c l + oweRow c j := rfl
/-- No copy, nothing owed. -/
theorem rowsFrom_nil (c : Dev nD) : rowsFrom c [] = 0 := rfl
/-- What is owed at launch, by the exchanges in order. -/
theorem O₀_eq (c : Dev nD) : O₀ c = owe (oweSig c) (rowsFrom c (plane8 ++ line4)) (plane8 ++ line4) := rfl

omit [FloatOps F] in
/-- A family of eight, written out. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]; rfl
omit [FloatOps F] in
/-- A family of four, written out. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]; rfl
omit [FloatOps F] in
/-- A family of twelve: the plane's eight and the line's four. -/
theorem twelve (Φ : Fin 12 → sProp 𝕄) :
    bigSep Finset.univ Φ = iprop((bigSep Finset.univ fun t : Fin 8 => Φ (aj t)) ∗ bigSep Finset.univ fun w : Fin 4 => Φ (zj w)) := by
  rw [bigSep_univ_equiv (finSumFinEquiv (m := 8) (n := 4)) Φ, bigSep_univ_sum]; rfl

/-- Reading the device's number gives the device. -/
theorem dev_step {α : Type} (c : Dev nD) (k : Dev nD → Prog (TpuEff nD τ sig (Elt F) Λ₀ .tc) α) (Q : α → sProp 𝕄) :
    wp frame (Run (F := F) c) Set.univ (Prog.lift .deviceId >>= k) Q = wp frame (Run (F := F) c) Set.univ (k c) Q := by
  simp only [Prog.lift, Prog.bind_op, Prog.bind_ret, wp_deviceId]

/-- The waits for received rows are allowed: the plane's while owing the line's rows, the line's owing nothing. -/
theorem wait_a (c : Dev nD) (t : Fin 8) : recs m K ⊢ MayWait (c : Thread nD τ) (.dma (recvSem (aj t))) () (rowsFrom c line4) :=
  recs_wait m K (mayWait_row c (aj t) (aj_lt t) line4 (by decide))
/-- Owing nothing, a device may wait for the line's arrivals. -/
theorem wait_z (c : Dev nD) (w : Fin 4) : recs m K ⊢ MayWait (c : Thread nD τ) (.dma (recvSem (zj w))) () 0 := by
  rw [MayWait_zero]; iintro -; iempintro

/-! ## The parts -/

/-- The barrier semaphore, as the kernel reads it. -/
abbrev barA : Sems sig S_ := SemArray.scalar (sig.barrier 0 rfl)

/-- The body's first part. -/
abbrev prog1 : Prog (TpuEff nD τ sig (Elt F) Λ₀ .tc) (Σ' (d0 : Dev nD) (v19 : BitVec 32) (v29 : BitVec 32) (v30 : Sems sig S_), BitVec 32) :=
  k0_part1 xM (Memref.isWhole_whole _) oM (Memref.isWhole_whole _) aM (Memref.isWhole_whole _) zM (Memref.isWhole_whole _)
    cc0_scratch2 cc0_scratch3 cc0_scratch4 cc0_scratch5

/-- The first part sends the first two signals. -/
theorem run_part1 (c : Dev nD) (O : CellTallies nD τ sig Unit) (l : List (Fin 12)) (Q : _ → sProp 𝕄) :
    iprop(recs m K ∗ ow c (owe (oweSig c) O (aj 0 :: aj 1 :: l)) ∗ sigIn c (aj 0) ∗ sigIn c (aj 1))
      ⊢ iprop((ow c (owe (oweSig c) O l) ∗ sigOut c (aj 0) ∗ sigOut c (aj 1) -∗ Q ⟨c, zW c, sW c, barA, 2#32⟩)
          -∗ wp frame (Run (F := F) c) Set.univ (prog1 (F := F)) Q) := by
  unfold prog1; rw [k0_part1_eq_skeleton]; unfold k0_part1_skel
  rw [dev_step, owe_cons, owe_cons]; unfold zW sW
  iintro ⟨#HR, HO, H0, H1⟩ Hk
  iapply (sig_step m K c (aj 0) _ _ (cond1 c) _ (fun h => Fin.ext (dev1 c)) _ _) $$ [HO H0]
  · isplitr; · iexact HR
    isplitl [HO] <;> iassumption
  iintro ⟨HO, H0⟩
  iapply (sig_step m K c (aj 1) _ _ (cond2 c) _ (fun h => Fin.ext (dev2 c)) _ _) $$ [HO H1]
  · isplitr; · iexact HR
    isplitl [HO] <;> iassumption
  iintro ⟨HO, H1⟩
  rw [wp_pure]; imodintro
  iapply Hk
  isplitl [HO]; · iexact HO
  isplitl [H0]; · iexact H0
  iexact H1

/-- The body's second part. -/
abbrev prog2 (c : Dev nD) : Prog (TpuEff nD τ sig (Elt F) Λ₀ .tc) PUnit :=
  k0_part2 xM (Memref.isWhole_whole _) oM (Memref.isWhole_whole _) aM (Memref.isWhole_whole _) zM (Memref.isWhole_whole _)
    cc0_scratch2 cc0_scratch3 cc0_scratch4 cc0_scratch5 c (zW c) (sW c) barA 2#32

/-- The second part sends the remaining ten. -/
theorem run_part2 (c : Dev nD) (O : CellTallies nD τ sig Unit) (Q : _ → sProp 𝕄) :
    iprop(recs m K ∗ ow c (owe (oweSig c) O [aj 2, aj 3, aj 4, aj 5, aj 6, aj 7, zj 0, zj 1, zj 2, zj 3])
        ∗ sigIn c (aj 2) ∗ sigIn c (aj 3) ∗ sigIn c (aj 4) ∗ sigIn c (aj 5) ∗ sigIn c (aj 6) ∗ sigIn c (aj 7) ∗ sigIn c (zj 0) ∗ sigIn c (zj 1) ∗ sigIn c (zj 2) ∗ sigIn c (zj 3))
      ⊢ iprop((ow c O
          ∗ sigOut c (aj 2) ∗ sigOut c (aj 3) ∗ sigOut c (aj 4) ∗ sigOut c (aj 5) ∗ sigOut c (aj 6) ∗ sigOut c (aj 7) ∗ sigOut c (zj 0) ∗ sigOut c (zj 1) ∗ sigOut c (zj 2) ∗ sigOut c (zj 3) -∗ Q ⟨⟩)
          -∗ wp frame (Run (F := F) c) Set.univ (prog2 (F := F) c) Q) := by
  unfold prog2; rw [k0_part2_eq_skeleton]; unfold k0_part2_skel
  simp only [owe_cons, owe_nil]
  iintro ⟨#HR, HO, H2, H3, H4, H5, H6, H7, H8, H9, H10, H11⟩ Hk
  iapply (sig_step m K c (aj 2) _ _ (cond3 c) _ (fun h => Fin.ext (dev3 c)) _ _) $$ [HO H2]
  · isplitr; · iexact HR
    isplitl [HO] <;> iassumption
  iintro ⟨HO, H2⟩
  iapply (sig_step m K c (aj 3) _ _ (cond4 c) _ (fun h => Fin.ext (dev4 c)) _ _) $$ [HO H3]
  · isplitr; · iexact HR
    isplitl [HO] <;> iassumption
  iintro ⟨HO, H3⟩
  iapply (sig_step m K c (aj 4) _ _ (cond5 c) _ (fun h => Fin.ext (dev5 c)) _ _) $$ [HO H4]
  · isplitr; · iexact HR
    isplitl [HO] <;> iassumption
  iintro ⟨HO, H4⟩
  iapply (sig_step m K c (aj 5) _ _ (cond6 c) _ (fun h => Fin.ext (dev6 c)) _ _) $$ [HO H5]
  · isplitr; · iexact HR
    isplitl [HO] <;> iassumption
  iintro ⟨HO, H5⟩
  iapply (sig_step m K c (aj 6) _ _ (cond7 c) _ (fun h => Fin.ext (dev7 c)) _ _) $$ [HO H6]
  · isplitr; · iexact HR
    isplitl [HO] <;> iassumption
  iintro ⟨HO, H6⟩
  iapply (sig_step m K c (aj 7) _ _ (cond8 c) _ (fun h => Fin.ext (dev8 c)) _ _) $$ [HO H7]
  · isplitr; · iexact HR
    isplitl [HO] <;> iassumption
  iintro ⟨HO, H7⟩
  iapply (sig_step m K c (zj 0) _ _ (cond9 c) _ (fun h => Fin.ext (dev9 c)) _ _) $$ [HO H8]
  · isplitr; · iexact HR
    isplitl [HO] <;> iassumption
  iintro ⟨HO, H8⟩
  iapply (sig_step m K c (zj 1) _ _ (cond10 c) _ (fun h => Fin.ext (dev10 c)) _ _) $$ [HO H9]
  · isplitr; · iexact HR
    isplitl [HO] <;> iassumption
  iintro ⟨HO, H9⟩
  iapply (sig_step m K c (zj 2) _ _ (cond11 c) _ (fun h => Fin.ext (dev11 c)) _ _) $$ [HO H10]
  · isplitr; · iexact HR
    isplitl [HO] <;> iassumption
  iintro ⟨HO, H10⟩
  iapply (sig_step m K c (zj 3) _ _ (cond12 c) _ (fun h => Fin.ext (dev12 c)) _ _) $$ [HO H11]
  · isplitr; · iexact HR
    isplitl [HO] <;> iassumption
  iintro ⟨HO, H11⟩
  rw [wp_pure]; imodintro
  iapply Hk
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The rights to count both ends of a copy. -/
def sndTok (c : Dev nD) (j : Fin 12) : sProp 𝕄 :=
  iprop(dutyTok ER (sendCell c j) 0 0 ∗ dutyTok ER (recvCell (peer c j) (bk c j)) 0 0)

/-- What the plane's copies need: the lent shares, the other ends' rows and the rights to count. -/
theorem sndIn_a (c : Dev nD) :
    iprop(lentA m c ∗ (bigSep Finset.univ fun t : Fin 8 => land c (aj t)) ∗ bigSep Finset.univ fun t : Fin 8 => sndTok (F := F) c (aj t))
      = bigSep Finset.univ fun t : Fin 8 => sndIn m c (aj t) := by
  unfold lentA sndIn sndTok; simp only [bigSep_sep']
/-- What the line's copies need: the lent shares, the other ends' rows and the rights to count. -/
theorem sndIn_z (c : Dev nD) :
    iprop(lentZ m c ∗ (bigSep Finset.univ fun t : Fin 4 => land c (zj t)) ∗ bigSep Finset.univ fun t : Fin 4 => sndTok (F := F) c (zj t))
      = bigSep Finset.univ fun t : Fin 4 => sndIn m c (zj t) := by
  unfold lentZ sndIn sndTok; simp only [bigSep_sep']

/-- The staged rows of `x`. -/
abbrev xPts (c : Dev nD) : sProp 𝕄 := (((c : Thread nD τ).loc cc0_stg0_0) ↦{fullShare} xstg m c)

/-- The body's third part. -/
abbrev prog3 (c : Dev nD) : Prog (TpuEff nD τ sig (Elt F) Λ₀ .tc) (BitVec 32) :=
  k0_part3 xM (Memref.isWhole_whole _) oM (Memref.isWhole_whole _) aM (Memref.isWhole_whole _) zM (Memref.isWhole_whole _)
    cc0_scratch2 cc0_scratch3 cc0_scratch4 cc0_scratch5 c (zW c) (sW c) barA

/-- The third part sums the device's rows, waits at the barrier and starts the plane's first copies. -/
theorem run_part3 (c : Dev nD) (f : (cc0_scratch0 : Ref sig .tc).ty.Contents (Elt F)) (Q : _ → sProp 𝕄) :
    iprop(recs m K ∗ ow c (rowsFrom c (plane8 ++ line4)) ∗ xPts m c ∗ aPts c (sOf c) fullShare f ∗ barIn c
        ∗ bigSep Finset.univ fun t : Fin 8 => sndTok c (aj t))
      ⊢ iprop((ow c (rowsFrom c (aj 4 :: aj 5 :: aj 6 :: aj 7 :: line4)) ∗ xPts m c ∗ aPts c (sOf c) qL (AG m c) ∗ semVal (barCell c) 0
          ∗ sndOut m c (aj 0) ∗ sndOut m c (aj 1) ∗ sndOut m c (aj 2) ∗ sndOut m c (aj 3) ∗ sndIn m c (aj 4) ∗ sndIn m c (aj 5) ∗ sndIn m c (aj 6) ∗ sndIn m c (aj 7)
          ∗ (bigSep Finset.univ fun w : Fin 4 => land c (zj w)) -∗ Q 8#32)
          -∗ wp frame (Run (F := F) c) Set.univ (prog3 (F := F) c) Q) := by
  unfold prog3; rw [k0_part3_eq_skeleton]; unfold k0_part3_skel
  iintro ⟨#HR, HO, HX, HA, HB, HT⟩ Hk
  iapply (x_load _ c _ _ _ _ _) $$ HX; iintro HX
  iapply (a_store m _ c f (k0_off1 c) (off1 c) _ _ _ _ _) $$ HA; iintro HA
  iapply (bar_step m _ K c (plane8 ++ line4) _) $$ [HO HB]
  · isplitr; · iexact HR
    isplitl [HO] <;> iassumption
  iintro ⟨HO, HB, HLs⟩
  icases (Entails.of_eq (twelve fun j => land (F := F) c j)) $$ HLs with ⟨HLa, HLz⟩
  icases (Entails.of_eq (lend_a m c)) $$ HA with ⟨HA, HL⟩
  ihave HS := (Entails.of_eq ((sndIn_a m c).trans (eight _))) $$ [HL HLa HT]
  · isplitl [HL]; · iexact HL
    isplitl [HLa] <;> iassumption
  icases HS with ⟨S0, S1, S2, S3, S4, S5, S6, S7⟩
  ihave HO := (Entails.of_eq (congrArg (ow (F := F) c) (show rowsFrom c (plane8 ++ line4)
    = rowsFrom c (aj 4 :: aj 5 :: aj 6 :: aj 7 :: line4) + oweRow c (aj 3) + oweRow c (aj 2) + oweRow c (aj 1) + oweRow c (aj 0) from rfl))) $$ HO
  iapply (a_send_step m K c 0 _ _ (cond13 c) _ (fun h => Fin.ext (dev13 c)) ![0] (k0_off2 c) (k0_off3 c) rfl (off2 c) (off3 c) _ _ _ _ _) $$ [HO S0]
  · isplitr; · iexact HR
    isplitl [HO] <;> iassumption
  iintro ⟨HO, S0⟩
  iapply (a_send_step m K c 1 _ _ (cond14 c) _ (fun h => Fin.ext (dev14 c)) ![1] (k0_off4 c) (k0_off5 c) rfl (off4 c) (off5 c) _ _ _ _ _) $$ [HO S1]
  · isplitr; · iexact HR
    isplitl [HO] <;> iassumption
  iintro ⟨HO, S1⟩
  iapply (a_send_step m K c 2 _ _ (cond15 c) _ (fun h => Fin.ext (dev15 c)) ![2] (k0_off6 c) (k0_off7 c) rfl (off6 c) (off7 c) _ _ _ _ _) $$ [HO S2]
  · isplitr; · iexact HR
    isplitl [HO] <;> iassumption
  iintro ⟨HO, S2⟩
  iapply (a_send_step m K c 3 _ _ (cond16 c) _ (fun h => Fin.ext (dev16 c)) ![3] (k0_off8 c) (k0_off9 c) rfl (off8 c) (off9 c) _ _ _ _ _) $$ [HO S3]
  · isplitr; · iexact HR
    isplitl [HO] <;> iassumption
  iintro ⟨HO, S3⟩
  rw [wp_pure]; imodintro
  iapply Hk
  isplitl [HO]; · iexact HO
  isplitl [HX]; · iexact HX
  isplitl [HA]; · iexact HA
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact HLz

/-- The body's fourth part. -/
abbrev prog4 (c : Dev nD) : Prog (TpuEff nD τ sig (Elt F) Λ₀ .tc) (BitVec 32) :=
  k0_part4 xM (Memref.isWhole_whole _) oM (Memref.isWhole_whole _) aM (Memref.isWhole_whole _) zM (Memref.isWhole_whole _)
    cc0_scratch2 cc0_scratch3 cc0_scratch4 cc0_scratch5 c (zW c) (sW c) 8#32

/-- The fourth part starts the plane's other copies and waits for the first arrivals. -/
theorem run_part4 (c : Dev nD) (Q : _ → sProp 𝕄) :
    iprop(recs m K ∗ ow c (rowsFrom c (aj 4 :: aj 5 :: aj 6 :: aj 7 :: line4))
        ∗ sndIn m c (aj 4) ∗ sndIn m c (aj 5) ∗ sndIn m c (aj 6) ∗ sndIn m c (aj 7) ∗ rcvIn c (aj 0) ∗ rcvIn c (aj 1))
      ⊢ iprop((ow c (rowsFrom c line4) ∗ sndOut m c (aj 4) ∗ sndOut m c (aj 5) ∗ sndOut m c (aj 6) ∗ sndOut m c (aj 7) ∗ rcvOut m c (aj 0) ∗ rcvOut m c (aj 1) -∗ Q 2#32)
          -∗ wp frame (Run (F := F) c) Set.univ (prog4 (F := F) c) Q) := by
  unfold prog4; rw [k0_part4_eq_skeleton]; unfold k0_part4_skel
  rw [show rowsFrom c (aj 4 :: aj 5 :: aj 6 :: aj 7 :: line4)
    = rowsFrom c line4 + oweRow c (aj 7) + oweRow c (aj 6) + oweRow c (aj 5) + oweRow c (aj 4) from rfl]
  iintro ⟨#HR, HO, S4, S5, S6, S7, R0, R1⟩ Hk
  iapply (a_send_step m K c 4 _ _ (cond17 c) _ (fun h => Fin.ext (dev17 c)) ![4] (k0_off10 c) (k0_off11 c) rfl (off10 c) (off11 c) _ _ _ _ _) $$ [HO S4]
  · isplitr; · iexact HR
    isplitl [HO] <;> iassumption
  iintro ⟨HO, S4⟩
  iapply (a_send_step m K c 5 _ _ (cond18 c) _ (fun h => Fin.ext (dev18 c)) ![5] (k0_off12 c) (k0_off13 c) rfl (off12 c) (off13 c) _ _ _ _ _) $$ [HO S5]
  · isplitr; · iexact HR
    isplitl [HO] <;> iassumption
  iintro ⟨HO, S5⟩
  iapply (a_send_step m K c 6 _ _ (cond19 c) _ (fun h => Fin.ext (dev19 c)) ![6] (k0_off14 c) (k0_off15 c) rfl (off14 c) (off15 c) _ _ _ _ _) $$ [HO S6]
  · isplitr; · iexact HR
    isplitl [HO] <;> iassumption
  iintro ⟨HO, S6⟩
  iapply (a_send_step m K c 7 _ _ (cond20 c) _ (fun h => Fin.ext (dev20 c)) ![7] (k0_off16 c) (k0_off17 c) rfl (off16 c) (off17 c) _ _ _ _ _) $$ [HO S7]
  · isplitr; · iexact HR
    isplitl [HO] <;> iassumption
  iintro ⟨HO, S7⟩
  iapply (a_rcv_step m K c 0 _ (sW_0 c) ![0] rfl _ _ _ _ _ (rowsFrom c line4) (wait_a m K c 0) _ _) $$ [HO R0]
  · isplitr; · iexact HR
    isplitl [HO] <;> iassumption
  iintro ⟨HO, R0⟩
  iapply (a_rcv_step m K c 1 _ (sW_1 c) ![1] rfl _ _ _ _ _ (rowsFrom c line4) (wait_a m K c 1) _ _) $$ [HO R1]
  · isplitr; · iexact HR
    isplitl [HO] <;> iassumption
  iintro ⟨HO, R1⟩
  rw [wp_pure]; imodintro
  iapply Hk
  isplitl [HO]; · iexact HO
  isplitl [S4]; · iexact S4
  isplitl [S5]; · iexact S5
  isplitl [S6]; · iexact S6
  isplitl [S7]; · iexact S7
  isplitl [R0]; · iexact R0
  iexact R1

/-- The body's fifth part. -/
abbrev prog5 (c : Dev nD) : Prog (TpuEff nD τ sig (Elt F) Λ₀ .tc) (BitVec 32) :=
  k0_part5 xM (Memref.isWhole_whole _) oM (Memref.isWhole_whole _) aM (Memref.isWhole_whole _) zM (Memref.isWhole_whole _)
    cc0_scratch2 cc0_scratch3 cc0_scratch4 cc0_scratch5 c (zW c) (sW c) 2#32

/-- The fifth part waits for the plane's other arrivals and stores the plane's sum. -/
theorem run_part5 (c : Dev nD) (f : (cc0_scratch1 : Ref sig .tc).ty.Contents (Elt F)) (Q : _ → sProp 𝕄) :
    iprop(recs m K ∗ ow c (rowsFrom c line4) ∗ rcvOut m c (aj 0) ∗ rcvOut m c (aj 1)
        ∗ rcvIn c (aj 2) ∗ rcvIn c (aj 3) ∗ rcvIn c (aj 4) ∗ rcvIn c (aj 5) ∗ rcvIn c (aj 6) ∗ rcvIn c (aj 7) ∗ aPts c (sOf c) qL (AG m c) ∗ zPts c (zOf c) fullShare f)
      ⊢ iprop((ow c (rowsFrom c line4) ∗ (bigSep Finset.univ fun t : Fin 8 => semVal (recvCell c (aj t)) 0)
          ∗ (((c : Thread nD τ).loc cc0_scratch0) ↦{qL} AG m c) ∗ keptA m c ∗ zPts c (zOf c) qL (ZG m c) ∗ lentZ m c -∗ Q 0#32)
          -∗ wp frame (Run (F := F) c) Set.univ (prog5 (F := F) c) Q) := by
  unfold prog5; rw [k0_part5_eq_skeleton]; unfold k0_part5_skel
  iintro ⟨#HR, HO, R0, R1, R2, R3, R4, R5, R6, R7, HA, HZ⟩ Hk
  iapply (a_rcv_step m K c 2 _ (sW_2 c) ![2] rfl _ _ _ _ _ (rowsFrom c line4) (wait_a m K c 2) _ _) $$ [HO R2]
  · isplitr; · iexact HR
    isplitl [HO] <;> iassumption
  iintro ⟨HO, R2⟩
  iapply (a_rcv_step m K c 3 _ (sW_3 c) ![3] rfl _ _ _ _ _ (rowsFrom c line4) (wait_a m K c 3) _ _) $$ [HO R3]
  · isplitr; · iexact HR
    isplitl [HO] <;> iassumption
  iintro ⟨HO, R3⟩
  iapply (a_rcv_step m K c 4 _ (sW_4 c) ![4] rfl _ _ _ _ _ (rowsFrom c line4) (wait_a m K c 4) _ _) $$ [HO R4]
  · isplitr; · iexact HR
    isplitl [HO] <;> iassumption
  iintro ⟨HO, R4⟩
  iapply (a_rcv_step m K c 5 _ (sW_5 c) ![5] rfl _ _ _ _ _ (rowsFrom c line4) (wait_a m K c 5) _ _) $$ [HO R5]
  · isplitr; · iexact HR
    isplitl [HO] <;> iassumption
  iintro ⟨HO, R5⟩
  iapply (a_rcv_step m K c 6 _ (sW_6 c) ![6] rfl _ _ _ _ _ (rowsFrom c line4) (wait_a m K c 6) _ _) $$ [HO R6]
  · isplitr; · iexact HR
    isplitl [HO] <;> iassumption
  iintro ⟨HO, R6⟩
  iapply (a_rcv_step m K c 7 _ (sW_7 c) ![7] rfl _ _ _ _ _ (rowsFrom c line4) (wait_a m K c 7) _ _) $$ [HO R7]
  · isplitr; · iexact HR
    isplitl [HO] <;> iassumption
  iintro ⟨HO, R7⟩
  ihave HG := (Entails.of_eq ((eight fun t => rcvOut m c (aj t)).symm.trans (bigSep_sep' _ _ _))) $$ [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  icases HG with ⟨HG, HV⟩
  ihave HW := (Entails.of_eq (gather_a m c)) $$ [HA HG]
  · isplitl [HA] <;> iassumption
  icases HW with ⟨HA, HK⟩
  iapply (a_load _ c _ _ _ _ _) $$ HA; iintro HA
  iapply (z_store m _ c f (k0_off18 c) (off18 c) _ _ _ _ _) $$ HZ
  iintro HZ
  icases (Entails.of_eq (lend_z m c)) $$ HZ with ⟨HZ, HL⟩
  rw [wp_pure]; imodintro
  iapply Hk
  isplitl [HO]; · iexact HO
  isplitl [HV]; · iexact HV
  isplitl [HA]; · iexact HA
  isplitl [HK]; · iexact HK
  isplitl [HZ]; · iexact HZ
  iexact HL

/-- The body's sixth part. -/
abbrev prog6 (c : Dev nD) : Prog (TpuEff nD τ sig (Elt F) Λ₀ .tc) (BitVec 32) :=
  k0_part6 xM (Memref.isWhole_whole _) oM (Memref.isWhole_whole _) aM (Memref.isWhole_whole _) zM (Memref.isWhole_whole _)
    cc0_scratch2 cc0_scratch3 cc0_scratch4 cc0_scratch5 c (zW c) (sW c) 0#32

/-- The sixth part starts the line's copies and waits for the first three arrivals. -/
theorem run_part6 (c : Dev nD) (Q : _ → sProp 𝕄) :
    iprop(recs m K ∗ ow c (rowsFrom c line4)
        ∗ sndIn m c (zj 0) ∗ sndIn m c (zj 1) ∗ sndIn m c (zj 2) ∗ sndIn m c (zj 3) ∗ rcvIn c (zj 0) ∗ rcvIn c (zj 1) ∗ rcvIn c (zj 2))
      ⊢ iprop((ow c 0 ∗ sndOut m c (zj 0) ∗ sndOut m c (zj 1) ∗ sndOut m c (zj 2) ∗ sndOut m c (zj 3) ∗ rcvOut m c (zj 0) ∗ rcvOut m c (zj 1) ∗ rcvOut m c (zj 2) -∗ Q 3#32)
          -∗ wp frame (Run (F := F) c) Set.univ (prog6 (F := F) c) Q) := by
  unfold prog6; rw [k0_part6_eq_skeleton]; unfold k0_part6_skel
  rw [show rowsFrom c line4 = 0 + oweRow c (zj 3) + oweRow c (zj 2) + oweRow c (zj 1) + oweRow c (zj 0) from rfl]
  iintro ⟨#HR, HO, S0, S1, S2, S3, R0, R1, R2⟩ Hk
  iapply (z_send_step m K c 0 _ _ (cond29 c) _ (fun h => Fin.ext (dev21 c)) ![0] (k0_off19 c) (k0_off20 c) rfl (off19 c) (off20 c) _ _ _ _ _) $$ [HO S0]
  · isplitr; · iexact HR
    isplitl [HO] <;> iassumption
  iintro ⟨HO, S0⟩
  iapply (z_send_step m K c 1 _ _ (cond30 c) _ (fun h => Fin.ext (dev22 c)) ![1] (k0_off21 c) (k0_off22 c) rfl (off21 c) (off22 c) _ _ _ _ _) $$ [HO S1]
  · isplitr; · iexact HR
    isplitl [HO] <;> iassumption
  iintro ⟨HO, S1⟩
  iapply (z_send_step m K c 2 _ _ (cond31 c) _ (fun h => Fin.ext (dev23 c)) ![2] (k0_off23 c) (k0_off24 c) rfl (off23 c) (off24 c) _ _ _ _ _) $$ [HO S2]
  · isplitr; · iexact HR
    isplitl [HO] <;> iassumption
  iintro ⟨HO, S2⟩
  iapply (z_send_step m K c 3 _ _ (cond32 c) _ (fun h => Fin.ext (dev24 c)) ![3] (k0_off25 c) (k0_off26 c) rfl (off25 c) (off26 c) _ _ _ _ _) $$ [HO S3]
  · isplitr; · iexact HR
    isplitl [HO] <;> iassumption
  iintro ⟨HO, S3⟩
  iapply (z_rcv_step m K c 0 _ (zW_0 c) ![0] rfl _ _ _ _ _ 0 (wait_z m K c 0) _ _) $$ [HO R0]
  · isplitr; · iexact HR
    isplitl [HO] <;> iassumption
  iintro ⟨HO, R0⟩
  iapply (z_rcv_step m K c 1 _ (zW_1 c) ![1] rfl _ _ _ _ _ 0 (wait_z m K c 1) _ _) $$ [HO R1]
  · isplitr; · iexact HR
    isplitl [HO] <;> iassumption
  iintro ⟨HO, R1⟩
  iapply (z_rcv_step m K c 2 _ (zW_2 c) ![2] rfl _ _ _ _ _ 0 (wait_z m K c 2) _ _) $$ [HO R2]
  · isplitr; · iexact HR
    isplitl [HO] <;> iassumption
  iintro ⟨HO, R2⟩
  rw [wp_pure]; imodintro
  iapply Hk
  isplitl [HO]; · iexact HO
  isplitl [S0]; · iexact S0
  isplitl [S1]; · iexact S1
  isplitl [S2]; · iexact S2
  isplitl [S3]; · iexact S3
  isplitl [R0]; · iexact R0
  isplitl [R1]; · iexact R1
  iexact R2

/-- The body's seventh part. -/
abbrev prog7 (c : Dev nD) : Prog (TpuEff nD τ sig (Elt F) Λ₀ .tc) (Σ' (v196 : BitVec 32), BitVec 32) :=
  k0_part7 xM (Memref.isWhole_whole _) oM (Memref.isWhole_whole _) aM (Memref.isWhole_whole _) zM (Memref.isWhole_whole _)
    cc0_scratch2 cc0_scratch3 cc0_scratch4 cc0_scratch5 c (zW c) (sW c) 3#32

/-- The seventh part waits for the last arrival, stores the result and begins the waits of the sends. -/
theorem run_part7 (c : Dev nD) (f : (cc0_stg1_0 : Ref sig .tc).ty.Contents (Elt F)) (Q : _ → sProp 𝕄) :
    iprop(recs m K ∗ ow c 0 ∗ rcvOut m c (zj 0) ∗ rcvOut m c (zj 1) ∗ rcvOut m c (zj 2) ∗ rcvIn c (zj 3) ∗ zPts c (zOf c) qL (ZG m c)
        ∗ (((c : Thread nD τ).loc cc0_stg1_0) ↦{fullShare} f) ∗ cmpIn m c (aj 0) ∗ cmpIn m c (aj 1) ∗ cmpIn m c (aj 2) ∗ cmpIn m c (aj 3) ∗ cmpIn m c (aj 4))
      ⊢ iprop((ow c 0 ∗ (bigSep Finset.univ fun t : Fin 4 => semVal (recvCell c (zj t)) 0)
          ∗ (((c : Thread nD τ).loc cc0_scratch1) ↦{qL} ZG m c) ∗ keptZ m c ∗ (((c : Thread nD τ).loc cc0_stg1_0) ↦{fullShare} outAt m c)
          ∗ cmpOut m c (aj 0) ∗ cmpOut m c (aj 1) ∗ cmpOut m c (aj 2) ∗ cmpOut m c (aj 3) ∗ cmpOut m c (aj 4) -∗ Q ⟨Scalar.extui (Scalar.cmpi .ne (sW c) 5#32), 0#32⟩)
          -∗ wp frame (Run (F := F) c) Set.univ (prog7 (F := F) c) Q) := by
  unfold prog7; rw [k0_part7_eq_skeleton]; unfold k0_part7_skel
  iintro ⟨#HR, HO, R0, R1, R2, R3, HZ, HY, C0, C1, C2, C3, C4⟩ Hk
  iapply (z_rcv_step m K c 3 _ (zW_3 c) ![3] rfl _ _ _ _ _ 0 (wait_z m K c 3) _ _) $$ [HO R3]
  · isplitr; · iexact HR
    isplitl [HO] <;> iassumption
  iintro ⟨HO, R3⟩
  ihave HG := (Entails.of_eq ((four fun t => rcvOut m c (zj t)).symm.trans (bigSep_sep' _ _ _))) $$ [R0 R1 R2 R3]
  · isplitl [R0]; · iexact R0
    isplitl [R1]; · iexact R1
    isplitl [R2]; · iexact R2
    iexact R3
  icases HG with ⟨HG, HV⟩
  ihave HW := (Entails.of_eq (gather_z m c)) $$ [HZ HG]
  · isplitl [HZ] <;> iassumption
  icases HW with ⟨HZ, HK⟩
  iapply (z_load _ c _ _ _ _ _) $$ HZ; iintro HZ
  iapply (o_store _ c f (outAt m c) _ _ _ _ _) $$ HY; iintro HY
  iapply (a_cmp_step m K c 0 _ (cond37 c) ![0] rfl _ _ _ _ _ _ _) $$ [HO C0]
  · isplitr; · iexact HR
    isplitl [HO] <;> iassumption
  iintro ⟨HO, C0⟩
  iapply (a_cmp_step m K c 1 _ (cond38 c) ![1] rfl _ _ _ _ _ _ _) $$ [HO C1]
  · isplitr; · iexact HR
    isplitl [HO] <;> iassumption
  iintro ⟨HO, C1⟩
  iapply (a_cmp_step m K c 2 _ (cond39 c) ![2] rfl _ _ _ _ _ _ _) $$ [HO C2]
  · isplitr; · iexact HR
    isplitl [HO] <;> iassumption
  iintro ⟨HO, C2⟩
  iapply (a_cmp_step m K c 3 _ (cond40 c) ![3] rfl _ _ _ _ _ _ _) $$ [HO C3]
  · isplitr; · iexact HR
    isplitl [HO] <;> iassumption
  iintro ⟨HO, C3⟩
  iapply (a_cmp_step m K c 4 _ (cond41 c) ![4] rfl _ _ _ _ _ _ _) $$ [HO C4]
  · isplitr; · iexact HR
    isplitl [HO] <;> iassumption
  iintro ⟨HO, C4⟩
  rw [wp_pure]; imodintro
  iapply Hk
  isplitl [HO]; · iexact HO
  isplitl [HV]; · iexact HV
  isplitl [HZ]; · iexact HZ
  isplitl [HK]; · iexact HK
  isplitl [HY]; · iexact HY
  isplitl [C0]; · iexact C0
  isplitl [C1]; · iexact C1
  isplitl [C2]; · iexact C2
  isplitl [C3]; · iexact C3
  iexact C4

/-! ## The whole body -/

omit [FloatOps F] in
/-- A plane buffer at any contents is eight rows at any contents. -/
theorem any_a (c : Dev nD) : iprop(∃ f, (((c : Thread nD τ).loc cc0_scratch0) ↦{fullShare} f : sProp 𝕄))
    ⊢ (bigSep Finset.univ fun t : Fin 8 => rowAny (F := F) c (aj t)) := by
  iintro ⟨%f, H⟩
  ihave H := (Entails.of_eq (rows_a c fullShare f)) $$ H
  have h : (bigSep Finset.univ fun t : Fin 8 => aPts (F := F) c t fullShare f) ⊢ bigSep Finset.univ fun t : Fin 8 => rowAny (F := F) c (aj t) :=
    bigSep_mono fun t _ => (show aPts (F := F) c t fullShare f ⊢ rowAny (F := F) c (aj t) by
      rw [rowAny_a]; iintro H; iexists f; iexact H)
  iapply h; iexact H
omit [FloatOps F] in
/-- A line buffer at any contents is four rows at any contents. -/
theorem any_z (c : Dev nD) : iprop(∃ f, (((c : Thread nD τ).loc cc0_scratch1) ↦{fullShare} f : sProp 𝕄))
    ⊢ (bigSep Finset.univ fun t : Fin 4 => rowAny (F := F) c (zj t)) := by
  iintro ⟨%f, H⟩
  ihave H := (Entails.of_eq (rows_z c fullShare f)) $$ H
  have h : (bigSep Finset.univ fun t : Fin 4 => zPts (F := F) c t fullShare f) ⊢ bigSep Finset.univ fun t : Fin 4 => rowAny (F := F) c (zj t) :=
    bigSep_mono fun t _ => (show zPts (F := F) c t fullShare f ⊢ rowAny (F := F) c (zj t) by
      rw [rowAny_z]; iintro H; iexists f; iexact H)
  iapply h; iexact H

/-- After the signals a device is left with its own two rows. -/
theorem own_a (c : Dev nD) : (bigSep Finset.univ fun t : Fin 8 => sigOut (F := F) c (aj t)) ⊢ iprop(∃ f, aPts (F := F) c (sOf c) fullShare f) := by
  rw [← rowAny_a, ← show sigOut (F := F) c (aj (sOf c)) = rowAny c (aj (sOf c)) from if_pos ((own_aj c _).mpr rfl)]
  exact bigSep_elim (Φ := fun t : Fin 8 => sigOut (F := F) c (aj t)) (Finset.mem_univ (sOf c))
/-- After the line's signals the device still holds its own row of the line's buffer. -/
theorem own_z (c : Dev nD) : (bigSep Finset.univ fun t : Fin 4 => sigOut (F := F) c (zj t)) ⊢ iprop(∃ f, zPts (F := F) c (zOf c) fullShare f) := by
  rw [← rowAny_z, ← show sigOut (F := F) c (zj (zOf c)) = rowAny c (zj (zOf c)) from if_pos ((own_zj c _).mpr rfl)]
  exact bigSep_elim (Φ := fun t : Fin 4 => sigOut (F := F) c (zj t)) (Finset.mem_univ (zOf c))

/-- The rows of both buffers and the rights to signal, exchange by exchange. -/
theorem sigIn_all (c : Dev nD) :
    iprop((bigSep Finset.univ fun t : Fin 8 => rowAny (F := F) c (aj t)) ∗ (bigSep Finset.univ fun t : Fin 4 => rowAny (F := F) c (zj t))
      ∗ bigSep Finset.univ fun j : Fin 12 => dutyTok ER (barCell (peer c j)) 0 (bk c j))
      ⊢ (bigSep Finset.univ fun j : Fin 12 => sigIn (F := F) c j) := by
  unfold sigIn
  rw [bigSep_sep', twelve fun j => rowAny (F := F) c j]
  iintro ⟨H1, H2, H3⟩
  isplitl [H1 H2]
  · isplitl [H1] <;> iassumption
  · iexact H3

/-- A started copy and its semaphore's position are what the wait of the send needs. -/
theorem cmpIn_intro (c : Dev nD) (j : Fin 12) : iprop(sndOut m c j ∗ atPos ER (sendCell c j) 0 ∅ 0) ⊢ cmpIn m c j := by
  unfold cmpIn; exact BI.Entails.refl _

/-- A part that runs to a value may stand before a continuation. -/
theorem bind_run {α β : Type} {c : Dev nD} {In Out : sProp 𝕄} {p : Prog (TpuEff nD τ sig (Elt F) Λ₀ .tc) β} {v : β}
    (h : ∀ Q : β → sProp 𝕄, In ⊢ iprop((Out -∗ Q v) -∗ wp frame (Run (F := F) c) Set.univ p Q))
    (k : β → Prog (TpuEff nD τ sig (Elt F) Λ₀ .tc) α) (Q : α → sProp 𝕄) :
    In ⊢ iprop((Out -∗ wp frame (Run (F := F) c) Set.univ (k v) Q) -∗ wp frame (Run (F := F) c) Set.univ (p >>= k) Q) := by
  rw [wp_bind]; exact h fun r => wp frame (Run (F := F) c) Set.univ (k r) Q

/-- The whole body. -/
abbrev prog0 : Prog (TpuEff nD τ sig (Elt F) Λ₀ .tc) PUnit :=
  cc0_body xM (Memref.isWhole_whole _) oM (Memref.isWhole_whole _) aM (Memref.isWhole_whole _) zM (Memref.isWhole_whole _)
    cc0_scratch2 cc0_scratch3 cc0_scratch4 cc0_scratch5

/-- What the body starts from, apart from the records: its debts, its buffers and its protocol. -/
def startIn (c : Dev nD) : sProp 𝕄 :=
  iprop(barIn c ∗ (bigSep Finset.univ fun j : Fin 12 => dutyTok ER (barCell (peer c j)) 0 (bk c j))
    ∗ (bigSep Finset.univ fun j : Fin 12 => sndTok c j) ∗ (bigSep Finset.univ fun j : Fin 12 => rcvIn c j)
    ∗ (bigSep Finset.univ fun j : Fin 12 => atPos ER (sendCell c j) 0 ∅ 0))
/-- The counters it ends with. -/
def zeros (c : Dev nD) : sProp 𝕄 :=
  iprop(semVal (barCell c) 0 ∗ (bigSep Finset.univ fun j : Fin 12 => semVal (sendCell c j) 0)
    ∗ (bigSep Finset.univ fun j : Fin 12 => semVal (recvCell c j) 0))

set_option maxHeartbeats 1600000 in
/-- The whole body: from the staged argument, buffers at any contents and the launch's rights to the computed
    result, complete buffers and every counter at zero. -/
theorem run_body (c : Dev nD) (fo : (cc0_stg1_0 : Ref sig .tc).ty.Contents (Elt F)) (Q : PUnit → sProp 𝕄) :
    iprop(recs m K ∗ ow c (O₀ c) ∗ xPts m c ∗ (((c : Thread nD τ).loc cc0_stg1_0) ↦{fullShare} fo)
        ∗ (∃ f, (((c : Thread nD τ).loc cc0_scratch0) ↦{fullShare} f)) ∗ (∃ f, (((c : Thread nD τ).loc cc0_scratch1) ↦{fullShare} f)) ∗ startIn c)
      ⊢ iprop((ow c 0 ∗ xPts m c ∗ (((c : Thread nD τ).loc cc0_stg1_0) ↦{fullShare} outAt m c)
          ∗ (((c : Thread nD τ).loc cc0_scratch0) ↦{fullShare} AG m c) ∗ (((c : Thread nD τ).loc cc0_scratch1) ↦{fullShare} ZG m c) ∗ zeros c -∗ Q ⟨⟩)
          -∗ wp frame (Run (F := F) c) Set.univ (prog0 (F := F)) Q) := by
  unfold prog0 startIn; rw [cc0_body_eq_skeleton, O₀_eq]; unfold cc0_body_skel
  iintro ⟨#HR, HO, HX, HY, HA, HZ, HB, HT, HS, HV, HP⟩ Hk
  ihave HA := (any_a c) $$ HA
  ihave HZ := (any_z c) $$ HZ
  ihave HG := (sigIn_all c) $$ [HA HZ HT]
  · isplitl [HA]; · iexact HA
    isplitl [HZ] <;> iassumption
  icases (Entails.of_eq (twelve fun j => sigIn (F := F) c j)) $$ HG with ⟨HGa, HGz⟩
  icases (Entails.of_eq (eight fun t => sigIn (F := F) c (aj t))) $$ HGa with ⟨H0, H1, H2, H3, H4, H5, H6, H7⟩
  icases (Entails.of_eq (four fun t => sigIn (F := F) c (zj t))) $$ HGz with ⟨H8, H9, H10, H11⟩
  icases (Entails.of_eq (twelve fun j => sndTok (F := F) c j)) $$ HS with ⟨HSa, HSz⟩
  icases (Entails.of_eq (twelve fun j => rcvIn (F := F) c j)) $$ HV with ⟨HVa, HVz⟩
  icases (Entails.of_eq (eight fun t => rcvIn (F := F) c (aj t))) $$ HVa with ⟨V0, V1, V2, V3, V4, V5, V6, V7⟩
  icases (Entails.of_eq (four fun t => rcvIn (F := F) c (zj t))) $$ HVz with ⟨W0, W1, W2, W3⟩
  icases (Entails.of_eq (twelve fun j => (atPos ER (sendCell c j) 0 ∅ 0 : sProp 𝕄))) $$ HP with ⟨HPa, HPz⟩
  icases (Entails.of_eq (eight fun t => (atPos ER (sendCell c (aj t)) 0 ∅ 0 : sProp 𝕄))) $$ HPa with ⟨P0, P1, P2, P3, P4, P5, P6, P7⟩
  icases (Entails.of_eq (four fun t => (atPos ER (sendCell c (zj t)) 0 ∅ 0 : sProp 𝕄))) $$ HPz with ⟨P8, P9, P10, P11⟩
  iapply (bind_run (run_part1 m K c (rowsFrom c (plane8 ++ line4)) (aj 2 :: aj 3 :: aj 4 :: aj 5 :: aj 6 :: aj 7 :: line4)) _ _) $$ [HO H0 H1]
  · isplitr; · iexact HR
    isplitl [HO]; · iexact HO
    isplitl [H0]; · iexact H0
    iexact H1
  iintro ⟨HO, H0, H1⟩
  iapply (bind_run (run_part2 m K c (rowsFrom c (plane8 ++ line4))) _ _) $$ [HO H2 H3 H4 H5 H6 H7 H8 H9 H10 H11]
  · isplitr; · iexact HR
    isplitl [HO]; · iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨HO, H2, H3, H4, H5, H6, H7, H8, H9, H10, H11⟩
  ihave HA := (Entails.of_eq (eight fun t => sigOut (F := F) c (aj t)).symm) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave HZ := (Entails.of_eq (four fun t => sigOut (F := F) c (zj t)).symm) $$ [H8 H9 H10 H11]
  · isplitl [H8]; · iexact H8
    isplitl [H9]; · iexact H9
    isplitl [H10]; · iexact H10
    iexact H11
  icases (own_a c) $$ HA with ⟨%fa, HA⟩
  icases (own_z c) $$ HZ with ⟨%fz, HZ⟩
  iapply (bind_run (run_part3 m K c fa) _ _) $$ [HO HX HA HB HSa]
  · isplitr; · iexact HR
    isplitl [HO]; · iexact HO
    isplitl [HX]; · iexact HX
    isplitl [HA]; · iexact HA
    isplitl [HB]; · iexact HB
    iexact HSa
  iintro ⟨HO, HX, HA, HB, S0, S1, S2, S3, S4, S5, S6, S7, HL⟩
  iapply (bind_run (run_part4 m K c) _ _) $$ [HO S4 S5 S6 S7 V0 V1]
  · isplitr; · iexact HR
    isplitl [HO]; · iexact HO
    isplitl [S4]; · iexact S4
    isplitl [S5]; · iexact S5
    isplitl [S6]; · iexact S6
    isplitl [S7]; · iexact S7
    isplitl [V0]; · iexact V0
    iexact V1
  iintro ⟨HO, S4, S5, S6, S7, V0, V1⟩
  iapply (bind_run (run_part5 m K c fz) _ _) $$ [HO V0 V1 V2 V3 V4 V5 V6 V7 HA HZ]
  · isplitr; · iexact HR
    isplitl [HO]; · iexact HO
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [HA]; · iexact HA
    iexact HZ
  iintro ⟨HO, HVa, HA, HKa, HZ, HLz⟩
  ihave HT := (Entails.of_eq ((sndIn_z m c).trans (four _))) $$ [HLz HL HSz]
  · isplitl [HLz]; · iexact HLz
    isplitl [HL] <;> iassumption
  icases HT with ⟨T0, T1, T2, T3⟩
  iapply (bind_run (run_part6 m K c) _ _) $$ [HO T0 T1 T2 T3 W0 W1 W2]
  · isplitr; · iexact HR
    isplitl [HO]; · iexact HO
    isplitl [T0]; · iexact T0
    isplitl [T1]; · iexact T1
    isplitl [T2]; · iexact T2
    isplitl [T3]; · iexact T3
    isplitl [W0]; · iexact W0
    isplitl [W1]; · iexact W1
    iexact W2
  iintro ⟨HO, T0, T1, T2, T3, W0, W1, W2⟩
  ihave C0 := (cmpIn_intro m c (aj 0)) $$ [S0 P0]
  · isplitl [S0] <;> iassumption
  ihave C1 := (cmpIn_intro m c (aj 1)) $$ [S1 P1]
  · isplitl [S1] <;> iassumption
  ihave C2 := (cmpIn_intro m c (aj 2)) $$ [S2 P2]
  · isplitl [S2] <;> iassumption
  ihave C3 := (cmpIn_intro m c (aj 3)) $$ [S3 P3]
  · isplitl [S3] <;> iassumption
  ihave C4 := (cmpIn_intro m c (aj 4)) $$ [S4 P4]
  · isplitl [S4] <;> iassumption
  ihave C5 := (cmpIn_intro m c (aj 5)) $$ [S5 P5]
  · isplitl [S5] <;> iassumption
  ihave C6 := (cmpIn_intro m c (aj 6)) $$ [S6 P6]
  · isplitl [S6] <;> iassumption
  ihave C7 := (cmpIn_intro m c (aj 7)) $$ [S7 P7]
  · isplitl [S7] <;> iassumption
  ihave Z0 := (cmpIn_intro m c (zj 0)) $$ [T0 P8]
  · isplitl [T0] <;> iassumption
  ihave Z1 := (cmpIn_intro m c (zj 1)) $$ [T1 P9]
  · isplitl [T1] <;> iassumption
  ihave Z2 := (cmpIn_intro m c (zj 2)) $$ [T2 P10]
  · isplitl [T2] <;> iassumption
  ihave Z3 := (cmpIn_intro m c (zj 3)) $$ [T3 P11]
  · isplitl [T3] <;> iassumption
  iapply (bind_run (run_part7 m K c fo) _ _) $$ [HO W0 W1 W2 W3 HZ HY C0 C1 C2 C3 C4]
  · isplitr; · iexact HR
    isplitl [HO]; · iexact HO
    isplitl [W0]; · iexact W0
    isplitl [W1]; · iexact W1
    isplitl [W2]; · iexact W2
    isplitl [W3]; · iexact W3
    isplitl [HZ]; · iexact HZ
    isplitl [HY]; · iexact HY
    isplitl [C0]; · iexact C0
    isplitl [C1]; · iexact C1
    isplitl [C2]; · iexact C2
    isplitl [C3]; · iexact C3
    iexact C4
  iintro ⟨HO, HVz, HZ, HKz, HY, C0, C1, C2, C3, C4⟩
  iapply (a_cmp_step m K c 5 _ (cond42 c) ![5] rfl _ _ _ _ _ _ _) $$ [HO C5]
  · isplitr; · iexact HR
    isplitl [HO] <;> iassumption
  iintro ⟨HO, C5⟩
  iapply (a_cmp_step m K c 6 _ (cond43 c) ![6] rfl _ _ _ _ _ _ _) $$ [HO C6]
  · isplitr; · iexact HR
    isplitl [HO] <;> iassumption
  iintro ⟨HO, C6⟩
  iapply (a_cmp_step m K c 7 _ (cond44 c) ![7] rfl _ _ _ _ _ _ _) $$ [HO C7]
  · isplitr; · iexact HR
    isplitl [HO] <;> iassumption
  iintro ⟨HO, C7⟩
  iapply (z_cmp_step m K c 0 _ (cond45 c) ![0] rfl _ _ _ _ _ _ _) $$ [HO Z0]
  · isplitr; · iexact HR
    isplitl [HO] <;> iassumption
  iintro ⟨HO, Z0⟩
  iapply (z_cmp_step m K c 1 _ (cond46 c) ![1] rfl _ _ _ _ _ _ _) $$ [HO Z1]
  · isplitr; · iexact HR
    isplitl [HO] <;> iassumption
  iintro ⟨HO, Z1⟩
  iapply (z_cmp_step m K c 2 _ (cond47 c) ![2] rfl _ _ _ _ _ _ _) $$ [HO Z2]
  · isplitr; · iexact HR
    isplitl [HO] <;> iassumption
  iintro ⟨HO, Z2⟩
  iapply (z_cmp_step m K c 3 _ (cond48 c) ![3] rfl _ _ _ _ _ _ _) $$ [HO Z3]
  · isplitr; · iexact HR
    isplitl [HO] <;> iassumption
  iintro ⟨HO, Z3⟩
  icases (Entails.of_eq ((eight fun t => cmpOut m c (aj t)).symm.trans (bigSep_sep' _ _ _))) $$ [C0 C1 C2 C3 C4 C5 C6 C7] with ⟨HLC, HEC⟩
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  icases (Entails.of_eq ((four fun t => cmpOut m c (zj t)).symm.trans (bigSep_sep' _ _ _))) $$ [Z0 Z1 Z2 Z3] with ⟨HLZ, HEZ⟩
  · isplitl [Z0]; · iexact Z0
    isplitl [Z1]; · iexact Z1
    isplitl [Z2]; · iexact Z2
    iexact Z3
  ihave HA := (back_a m c) $$ [HA HKa HLC]
  · isplitl [HA]; · iexact HA
    isplitl [HKa]; · iexact HKa
    unfold lentA; iexact HLC
  ihave HZ := (back_z m c) $$ [HZ HKz HLZ]
  · isplitl [HZ]; · iexact HZ
    isplitl [HKz]; · iexact HKz
    unfold lentZ; iexact HLZ
  ihave HE := (Entails.of_eq (twelve fun j => semVal (sendCell c j) 0).symm) $$ [HEC HEZ]
  · isplitl [HEC] <;> iassumption
  ihave HV := (Entails.of_eq (twelve fun j => semVal (recvCell c j) 0).symm) $$ [HVa HVz]
  · isplitl [HVa] <;> iassumption
  rw [wp_pure]; imodintro
  iapply Hk
  isplitl [HO]; · iexact HO
  isplitl [HX]; · iexact HX
  isplitl [HY]; · iexact HY
  isplitl [HA]; · iexact HA
  isplitl [HZ]; · iexact HZ
  unfold zeros
  isplitl [HB]; · iexact HB
  isplitl [HE] <;> iassumption

end Cert.MeanProof

end
-- ==== Proof.Launch.lean ====
/-
The launch: how the semaphores' invariants, the rights to count and the claims are made and dealt to the devices,
and the run of the whole program from them.
-/
module

public import proofs.«01_k».proof.Proof.Body
public import Idealize.ShloMosaic.Lib.Pipeline.CollectiveSegs

@[expose] public section

noncomputable section

namespace Cert.MeanProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point of the pipeline -/

/-- What a device enters the kernel with, its buffers apart. -/
def start (c : Dev nD) : sProp 𝕄 := iprop(∃ K, recs m K ∗ startIn c)

/-- What a device holds before the body. -/
def Φ₀ (c : Dev nD) : sProp 𝕄 :=
  iprop(start m c ∗ (∃ f, (((c : Thread nD τ).loc cc0_scratch0) ↦{fullShare} f)) ∗ ∃ f, (((c : Thread nD τ).loc cc0_scratch1) ↦{fullShare} f))
/-- What a device holds after the body. -/
def Φ₁ (c : Dev nD) : sProp 𝕄 :=
  iprop((((c : Thread nD τ).loc cc0_scratch0) ↦{fullShare} AG m c) ∗ (((c : Thread nD τ).loc cc0_scratch1) ↦{fullShare} ZG m c) ∗ zeros c)

/-- The pipeline's data: the arrays at the start, what the body leaves in each stage, what is held and owed before
    and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A whole buffer's holding at known contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer held at given contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- All that the body's run starts from. -/
def pointIn (c : Dev nD) : sProp 𝕄 :=
  iprop(Φ₀ m c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
/-- All that the body's run ends with. -/
def pointOut (c : Dev nD) : sProp 𝕄 :=
  iprop(Φ₁ m c ∗ (dats m ρ 0 c).owesAt () t0_0.succ ∗ held c cc0_stg0_0 (xstg m c) ∗ held c cc0_stg1_0 (outAt m c))

/-- The body runs from the one to the other. -/
theorem run_point (c : Dev nD) :
    pointIn m ρ c ⊢ wp frame (Run (F := F) c) Set.univ (prog0 (F := F)) (fun _ => pointOut m ρ c) := by
  unfold pointIn Φ₀ start
  iintro ⟨⟨⟨%K, #HR, HS⟩, HA, HZ⟩, Ho, ⟨%d0, %g0, %hg0, HX⟩, ⟨%d1, %g1, %hg1, HY⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (run_body m K c g1 _) $$ [HO HX HY HA HZ HS]
  · isplitr; · iexact HR
    isplitl [HO]; · unfold ow; iexists W; iexact HO
    isplitl [HX]; · iexact HX
    isplitl [HY]; · iexact HY
    isplitl [HA]; · iexact HA
    isplitl [HZ] <;> iassumption
  unfold ow
  iintro ⟨⟨%W', HO⟩, HX, HY, HA, HZ, HE⟩
  unfold pointOut Φ₁ Dat.owesAt Pipeline.owesWithin
  rw [show (dats m ρ 0 c).owed t0_0.succ = 0 from rfl]
  isplitl [HA HZ HE]
  · isplitl [HA]; · iexact HA
    isplitl [HZ] <;> iassumption
  isplitl [HO]
  · iexists W'
    isplitr; · (ipureintro; exact fun _ _ => Or.inl trivial)
    iexact HO
  isplitl [HX]
  · iexists _; isplitr; · (ipureintro; rfl)
    iexact HX
  iexists _; isplitr; · (ipureintro; rfl)
  iexact HY

set_option maxRecDepth 4000 in
/-- So the pipeline's demand on the body is met. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  show pointIn m ρ c ⊢ wp frame (Run (F := F) c) Set.univ (prog0 (F := F)) (fun _ => pointOut m ρ c)
  exact run_point m ρ c

/-! ## The semaphores and the rights, as made and as dealt -/

/-- The kernel's own semaphores are no semaphores of the pipeline. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-- Different names, or devices, are different semaphores. -/
theorem kcell_injective : Function.Injective (kcell : Dev nD × CI → GSem nD τ sig) := fun a b h =>
  Prod.ext (congrArg (fun g : GSem nD τ sig => g.1.1) h) (csem_injective (congrArg Prod.snd h))
/-- All semaphores of the exchange. -/
def allCells : Finset (GSem nD τ sig) := Finset.univ.map ⟨kcell, kcell_injective⟩

/-- The rights to count, by the device whose semaphore is counted: its barrier's twelve, its send semaphores', its receive semaphores'. -/
abbrev TI : Type := Fin 12 ⊕ OI
/-- The semaphore and the duty that a right to count is for. -/
abbrev tokS : TI → SemLoc sig × Fin 12 := fun | .inl j => (.reg barS, j) | .inr k => (osem k, 0)
/-- The same on a device. -/
abbrev tokOf (ck : Dev nD × TI) : GSem nD τ sig × ℕ × Fin 12 := (((ck.1 : Thread nD τ), (tokS ck.2).1), 0, (tokS ck.2).2)
/-- Different rights are for different duties. -/
theorem tokS_injective : Function.Injective tokS := by decide +kernel
/-- The same over all devices. -/
theorem tokOf_injective : Function.Injective tokOf := fun a b h =>
  Prod.ext (congrArg (fun x : GSem nD τ sig × ℕ × Fin 12 => x.1.1.1) h)
    (tokS_injective (Prod.ext (congrArg (fun x : GSem nD τ sig × ℕ × Fin 12 => x.1.2) h) (congrArg (fun x : GSem nD τ sig × ℕ × Fin 12 => x.2.2) h)))
/-- All rights to count. -/
def allToks : Finset (GSem nD τ sig × ℕ × Fin 12) := Finset.univ.map ⟨tokOf, tokOf_injective⟩

/-- The proof's state at launch. -/
def u₀ : UU :=
  (initOf (Pipeline.cells cfgs cellOf_inj) (Pipeline.launchToks cfgs cellOf_inj), initOf allCells allToks)

/-- The rights to count device `c`'s semaphores. -/
def toks (c : Dev nD) : sProp 𝕄 :=
  iprop((bigSep Finset.univ fun j : Fin 12 => dutyTok ER (barCell c) 0 j)
    ∗ (bigSep Finset.univ fun j : Fin 12 => dutyTok ER (sendCell c j) 0 0) ∗ bigSep Finset.univ fun j : Fin 12 => dutyTok ER (recvCell c j) 0 0)
/-- The rights device `c` uses. -/
def payToks (c : Dev nD) : sProp 𝕄 :=
  iprop((bigSep Finset.univ fun j : Fin 12 => dutyTok ER (barCell (peer c j)) 0 (bk c j)) ∗ bigSep Finset.univ fun j : Fin 12 => sndTok c j)

omit [FloatOps F] in
/-- A device's semaphores: the barrier's, the sends', the arrivals'. -/
theorem cells_split (Φ : CI → sProp 𝕄) : bigSep Finset.univ Φ
    = iprop(Φ (.inl ()) ∗ (bigSep Finset.univ fun j : Fin 12 => Φ (.inr (.inl j))) ∗ bigSep Finset.univ fun j : Fin 12 => Φ (.inr (.inr j))) := by
  rw [bigSep_univ_sum, bigSep_univ_sum, bigSep_univ_of_subsingleton ()]; rfl

omit [FloatOps F] in
/-- Each right goes to the device at the other end of its exchange. -/
theorem toks_dealt : (bigSep Finset.univ fun c : Dev nD => (toks c : sProp 𝕄)) = bigSep Finset.univ fun c : Dev nD => payToks c := by
  have hx (Φ : Dev nD → Fin 12 → sProp 𝕄) : (bigSep Finset.univ fun c : Dev nD => bigSep Finset.univ fun j : Fin 12 => Φ c j)
      = bigSep Finset.univ fun c : Dev nD => bigSep Finset.univ fun j : Fin 12 => Φ (peer c j) (bk c j) := by
    rw [← bigSep_univ_prod fun p : Dev nD × Fin 12 => Φ p.1 p.2, bigSep_univ_equiv exch, bigSep_univ_prod]; rfl
  unfold toks payToks sndTok
  simp only [bigSep_sep']
  rw [hx fun c j => dutyTok ER (barCell c) 0 j, hx fun c j => dutyTok ER (recvCell c j) 0 0]

/-- What is made for device `c`: its semaphores' states, its positions, the rights. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- A device's positions and the rights it uses. -/
def linear (c : Dev nD) : sProp 𝕄 :=
  iprop((bigSep Finset.univ fun k : CI => atPos ER (kcell (c, k)) 0 ∅ 0) ∗ payToks c)
/-- The invariants, and that each semaphore is past its start. -/
def known (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)
instance known_persistent (K : Dev nD × CI → ℕ) : BI.Persistent (known m K) := by unfold known; infer_instance
/-- What device `c` is dealt. -/
def G' (c : Dev nD) : sProp 𝕄 := iprop(∃ K, known m K ∗ linear c)

/-- The state at launch gives each device its share. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own counters at zero, by exchange. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 12 => semVal (sendCell c j) 0) ∗ bigSep Finset.univ fun j : Fin 12 => semVal (recvCell c j) 0) := by
  unfold Pipeline.ownSems0; rw [bigSep_univ_sum]; rfl
omit [FloatOps F] in
/-- The barrier's counter at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- From its counters at zero a device makes its semaphores' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) := by
  unfold G
  rw [ownSems0_eq, unscopedSems0_eq]
  iintro ⟨⟨HE, HV⟩, HB, Hst, Hat, Htok⟩
  ihave Hv := (Entails.of_eq (cells_split fun k : CI => semVal (kcell (c, k)) 0).symm) $$ [HE HV HB]
  · isplitl [HB]; · iexact HB
    isplitl [HE] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What is known is dealt to every device. -/
theorem share_known (K : Dev nD × CI → ℕ) : iprop(known m K ∗ bigSep Finset.univ fun c : Dev nD => linear (F := F) c) ⊢ bigSep Finset.univ (G' m) := by
  have h : iprop((bigSep Finset.univ fun _ : Dev nD => known m K) ∗ bigSep Finset.univ fun c : Dev nD => linear (F := F) c) ⊢ bigSep Finset.univ (G' m) := by
    rw [← bigSep_sep']
    exact bigSep_mono fun c _ => (show iprop(known m K ∗ linear c) ⊢ G' m c by
      unfold G'; iintro H; iexists K; iexact H)
  exact (sep_mono_left (BI.bigSep_of_persistent Finset.univ (known m K))).trans h

/-- The rights to count go from the device whose semaphore it is to the device that counts. -/
theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  simp only [bigSep_sep']
  rw [toks_dealt, ← bigSep_univ_prod (fun ck : Dev nD × CI => iprop(∃ κ : ℕ, cellInv ER (Rd m) κ (kcell ck))),
    ← bigSep_univ_prod (fun ck : Dev nD × CI => (reached ER (kcell ck) 0 : sProp 𝕄))]
  iintro ⟨HI, ⟨Hat, HR⟩, Htok⟩
  icases (BI.bigSep_exists_pi Finset.univ (fun (ck : Dev nD × CI) (κ : ℕ) => (cellInv ER (Rd m) κ (kcell ck) : sProp 𝕄))) $$ HI with ⟨%K, HI⟩
  iapply (share_known m K)
  unfold known linear; rw [bigSep_sep']
  isplitl [HI HR]
  · isplitl [HI] <;> iassumption
  isplitl [Hat] <;> iassumption

/-- The launch's state for all devices becomes what each device enters with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The claims at launch -/

omit [FloatOps F] in
/-- What is owed to one semaphore by a list is the sum over the list. -/
theorem owe_apply (f : Fin 12 → CellTallies nD τ sig Unit) (O : CellTallies nD τ sig Unit) (g : GSem nD τ sig) :
    ∀ l : List (Fin 12), owe f O l g () = O g () + (l.map fun j => f j g ()).sum
  | [] => by simp [owe]
  | j :: l => by
    show owe f O l g () + f j g () = _
    rw [owe_apply f O g l, List.map_cons, List.sum_cons]; omega

/-- What all devices together owe a semaphore, by the device at the counted end. -/
theorem owed_sum (g : GSem nD τ sig) : ∑ d : Dev nD, O₀ d g ()
    = ∑ c : Dev nD, ∑ j : Fin 12, if peer c j = c then 0 else tallyAt (recvCell c j) () N g () + tallyAt (barCell c) () 1 g () := by
  have h (d : Dev nD) : O₀ d g () = ∑ j : Fin 12, (oweRow d j g () + oweSig d j g ()) := by
    unfold O₀ rowsFrom
    rw [owe_apply, owe_apply, Finset.sum_add_distrib]
    have hl (f : Fin 12 → ℕ) : ∑ j : Fin 12, f j = (([0, 1, 2, 3, 4, 5, 6, 7, 8, 9, 10, 11] : List (Fin 12)).map f).sum := by
      rw [← List.sum_ofFn]; rfl
    rw [hl, hl]; show 0 + _ + _ = _; rw [Nat.zero_add]
  rw [Finset.sum_congr rfl fun d _ => h d, ← Fintype.sum_prod_type' fun (d : Dev nD) (j : Fin 12) => oweRow d j g () + oweSig d j g (),
    ← Equiv.sum_comp exch, Fintype.sum_prod_type]
  refine Finset.sum_congr rfl fun c _ => Finset.sum_congr rfl fun j _ => ?_
  show oweRow (peer c j) (bk c j) g () + oweSig (peer c j) (bk c j) g () = _
  unfold oweRow oweSig
  rw [peer_back, bk_back]
  by_cases h : peer c j = c
  · rw [if_pos h, if_pos h.symm, if_pos h.symm]; rfl
  · rw [if_neg h, if_neg (fun h' => h h'.symm), if_neg (fun h' => h h'.symm)]

/-- No receive semaphore is a barrier. -/
theorem bar_ne_recv (c d : Dev nD) (j : Fin 12) : recvCell c j ≠ barCell d := fun h => dma_ne_bar _ (congrArg Prod.snd h)

/-- Ten signals are owed to every barrier. -/
theorem owed_bar (c : Dev nD) : ∑ d : Dev nD, O₀ d (barCell c) () = 10 := by
  rw [owed_sum, Finset.sum_eq_single c]
  · rw [← ten c, Finset.card_filter]
    refine Finset.sum_congr rfl fun j _ => ?_
    by_cases h : peer c j = c
    · rw [if_pos h, if_neg (fun hn => hn h)]
    · rw [if_neg h, if_pos h, tallyAt_apply, tallyAt_apply, if_neg (fun h' => bar_ne_recv c c j h'.1.symm), if_pos ⟨rfl, rfl⟩]
  · intro d _ hd
    refine Finset.sum_eq_zero fun j _ => ?_
    by_cases h : peer d j = d
    · rw [if_pos h]
    · rw [if_neg h, tallyAt_apply, tallyAt_apply, if_neg (fun h' => bar_ne_recv d c j h'.1.symm),
        if_neg (fun h' => hd (congrArg (fun g : GSem nD τ sig => g.1.1) h'.1).symm), Nat.add_zero]
  · exact fun h => absurd (Finset.mem_univ c) h

/-- A row's size is owed to every receive semaphore of an exchange with another device. -/
theorem owed_recv (c : Dev nD) (j : Fin 12) (h : peer c j ≠ c) : ∑ d : Dev nD, O₀ d (recvCell c j) () = N := by
  rw [owed_sum, Finset.sum_eq_single c]
  · rw [Finset.sum_eq_single j]
    · rw [if_neg h, tallyAt_apply, tallyAt_apply, if_pos ⟨rfl, rfl⟩, if_neg (fun h' => bar_ne_recv c c j h'.1), Nat.add_zero]
    · intro i _ hi
      by_cases h : peer c i = c
      · rw [if_pos h]
      · rw [if_neg h, tallyAt_apply, tallyAt_apply, if_neg (fun h' => hi (recv_loc_inj (congrArg Prod.snd h'.1)).symm),
          if_neg (fun h' => bar_ne_recv c c j h'.1), Nat.add_zero]
    · exact fun h => absurd (Finset.mem_univ j) h
  · intro d _ hd
    refine Finset.sum_eq_zero fun i _ => ?_
    by_cases h : peer d i = d
    · rw [if_pos h]
    · rw [if_neg h, tallyAt_apply, tallyAt_apply, if_neg (fun h' => hd (congrArg (fun g : GSem nD τ sig => g.1.1) h'.1).symm),
        if_neg (fun h' => bar_ne_recv c d j h'.1), Nat.add_zero]
  · exact fun h => absurd (Finset.mem_univ c) h

/-- The launch's claim on a semaphore is what is owed to it. -/
theorem launch_at (g : GSem nD τ sig) (k : ℕ) (h : ∑ d : Dev nD, O₀ d g () = k) :
    tallyOn g (launchCredit (Pipeline.owing O₀) 0 g) = (tallyAt g () k : CellTallies nD τ sig Unit) := by
  unfold tallyAt
  exact congrArg _ (Finsupp.ext fun u => by cases u; rw [Pipeline.launchCredit_owing, h, Finsupp.single_eq_same])

/-- The receive semaphores, as places. -/
def recvLocs : Finset (SemLoc sig) := Finset.univ.map ⟨fun j : Fin 12 => (SemLoc.dma (recvSem j) : SemLoc sig), fun _ _ h => recv_loc_inj h⟩

omit [FloatOps F] in
/-- Anything may be dropped. -/
theorem forget (P : sProp 𝕄) : P ⊢ iprop(emp) := by iintro -; iempintro

/-- A device's claims at launch: ten signals, and its arrivals. -/
theorem creds (c : Dev nD) :
    (Pipeline.launchCred O₀ c : sProp 𝕄) ⊢ iprop(cred (tallyAt (barCell c) () 10)
      ∗ bigSep Finset.univ fun j : Fin 12 => if peer c j = c then iprop(emp) else cred (tallyAt (recvCell c j) () N)) := by
  unfold Pipeline.launchCred
  rw [bigSep_univ_at _ (SemLoc.reg barS), launch_at (barCell c) 10 (owed_bar c)]
  refine sep_mono_right ?_
  have hs : recvLocs ⊆ Finset.univ.erase (SemLoc.reg barS) := fun s hs => by
    obtain ⟨j, -, rfl⟩ := Finset.mem_map.mp hs
    exact Finset.mem_erase.mpr ⟨dma_ne_bar _, Finset.mem_univ _⟩
  refine (bigSep_subset hs).trans ?_
  unfold recvLocs; rw [bigSep_map]
  refine bigSep_mono fun j _ => ?_
  by_cases h : peer c j = c
  · rw [if_pos h]
    exact forget _
  · rw [if_neg h]
    rw [← launch_at (recvCell c j) N (owed_recv c j h)]; exact BI.Entails.refl _

/-! ## Into the kernel and out of it -/

/-- What the launch hands a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' known linear payToks
  rw [cells_split fun k : CI => (atPos ER (kcell (c, k)) 0 ∅ 0 : sProp 𝕄)]
  iintro ⟨-, Hlev, Hcr, -, ⟨%K, ⟨HI, HR⟩, ⟨HB, HE, HV⟩, HT, HS⟩⟩
  icases (creds (F := F) c) $$ Hcr with ⟨HcB, HcV⟩
  imodintro
  isplitl
  · unfold start; iexists K
    isplitl [HI HR Hlev]
    · unfold recs
      isplitl [HI]; · iexact HI
      isplitl [HR] <;> iassumption
    unfold startIn barIn rcvIn; rw [bigSep_sep']
    isplitl [HB HcB]
    · isplitl [HB] <;> iassumption
    isplitl [HT]; · iexact HT
    isplitl [HS]; · iexact HS
    isplitl [HV HcV]
    · isplitl [HV] <;> iassumption
    iexact HE
  · iempintro

/-- With its scratch buffers a device enters the kernel. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- After the body the counters are at zero and the scratch buffers are given back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros
  iintro ⟨HA, HZ, HB, HE⟩
  isplitl [HB]; · iexact HB
  isplitl [HE]; · iexact HE
  isplitl [HA]; · iexists _; iexact HA
  iexists _; iexact HZ

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- The contents of a device's array after the run. -/
def finalA (c : Dev nD) (w : Fin cfg0.W) : Buf (Elt F) ((cfg0.win w).arr.view.loc (c : Thread nD τ)) := (dats m ρ 0 c).arrAt w cfg0.N

/-- Every array ends at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the 32 devices ends, with each device's arrays at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array `x` after the run holds what it held. -/
theorem finalA_x (c : Dev nD) : finalA m ρ c (0 : Fin 2) = m ((c : Thread nD τ).loc main_arg0) :=
  (dats (F := F) m ρ 0 c).arrAt_in (0 : Fin 2) rfl _

end Cert.MeanProof

end
-- ==== Proof.Ref.lean ====
/-
  The reference's run: six host operations on one device, giving the sum of the rows over 65536.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.MeanRef

open Cert.ReferenceIdeal Cert.ReferenceIdeal.Gen Idealize.ShloMosaic Idealize.ShloMosaic.TcCoe Idealize.ShloMosaic.StableHlo Idealize.SL.Sem

variable {F : FTy → Type} [FloatOps F]

/-- The mean of the rows as the reference writes it: the rows' sum from zero, made a row, over 65536 in every column. -/
def meanRow (x : FVec F S65536x1024 .f32) : FVec F S1x1024 .f32 :=
  Host.divf
    (broadcastInDim S1x1024 ![1] bcast_S1024_S1x1024_1 (Host.reduceAdd x (constant S_ .f32 0x00000000#32) reducesTo_S65536x1024_S1024_d0 h_S_))
    (broadcastInDim S1x1024 ![] bcast_S_S1x1024 (constant S_ .f32 0x47800000#32))

/-- The reference's operations, in order. -/
abbrev steps : List (HloOp τ sig (Elt F)) :=
  [ nullary main_cst (constant S_ .f32 0x00000000#32),
    binary main_arg0 main_cst main_v0 (fun x v => Host.reduceAdd x v reducesTo_S65536x1024_S1024_d0 h_S_),
    unary main_v0 main_v1 (broadcastInDim S1x1024 ![1] bcast_S1024_S1x1024_1),
    nullary main_cst_0 (constant S_ .f32 0x47800000#32),
    unary main_cst_0 main_v2 (broadcastInDim S1x1024 ![] bcast_S_S1x1024),
    binary main_v1 main_v2 main_v3 Host.divf ]

/-- The reference's program is these operations in order. -/
theorem main_steps (c : Dev nD) : main (F := F) c = seq steps := rfl

/-- After them the result is the mean. -/
theorem steps_result (V : Valuation τ sig (Elt F)) :
    after steps V (main_v3 : DevRef τ sig) = meanRow (V (main_arg0 : DevRef τ sig)) := by
  after_results; rfl

/-- They leave the argument as it was. -/
theorem steps_arg (V : Valuation τ sig (Elt F)) :
    after steps V (main_arg0 : DevRef τ sig) = V (main_arg0 : DevRef τ sig) := by
  after_results

/-- The reference has no scoped buffer. -/
theorem no_scoped_refs : (Finset.univ.filter fun b : Ref sig .tc => b.isScoped) = ∅ := by decide
/-- The reference has no semaphore. -/
theorem no_scoped_sems : (Finset.univ.filter fun sm : SemLoc sig => sm.isScoped .tc) = ∅ := by decide
/-- Its operations touch its own buffers only. -/
theorem steps_bufs : (steps : List (HloOp τ sig (Elt F))).Forall fun op => op.bufs ⊆ tcRefs τ sig :=
  ⟨nullary_bufs_sub .., binary_bufs_sub .., unary_bufs_sub .., nullary_bufs_sub .., unary_bufs_sub .., binary_bufs_sub ..⟩

/-- The reference ends with its result at the mean, its argument as it was and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v3) = meanRow (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v3).trans (steps_result _), (h c main_arg0).trans (steps_arg _)⟩,
      sem_eq_zero_of_no_sems (by decide) r.2⟩)
    (run_seq no_scoped_refs no_scoped_sems defs main (fun _ => steps) main_steps (fun _ => steps_bufs) m ρ)

end Cert.MeanRef

end
-- ==== Proof.Value.lean ====
/-
  The result's value over the extended reals.
-/
module

public import proofs.«01_k».proof.Proof.Launch
public import proofs.«01_k».proof.Proof.Ref
public import Idealize.ShloMosaic.Lib.IdealHost
public import Idealize.ShloMosaic.Lib.Pointwise
public import Idealize.ShloMosaic.Lib.Pipeline.ValueKit.Geometry

@[expose] public section

noncomputable section

namespace Cert.MeanProof

open Cert.KernelIdeal Cert.KernelIdeal.Gen Idealize.ShloMosaic Idealize.ShloMosaic.TcCoe Idealize.SL.Sem

section Any
variable {F : FTy → Type} [FloatOps F]
variable (m : (ℓ : Loc nD τ sig) → Buf (Elt F) ℓ) (ρ : Dev nD → PrngReg)

/-- The result array after the run holds the computed row. -/
theorem finalA_out (c : Dev nD) : finalA m ρ c (1 : Fin 2) = outAt m c :=
  (dats (F := F) m ρ 0 c).arrAt_eq_of_after_last (1 : Fin 2) t0_0 (by decide +kernel) (outAt m c) (fun _ => rfl)

/-- What a device's kernel reads is its whole argument. -/
theorem xstg_eq (c : Dev nD) : xstg m c = m ((c : Thread nD τ).loc main_arg0) := by
  funext i
  show m ((c : Thread nD τ).loc main_arg0) ((win0_0.blk (0 : Fin 1)).view.emb i) = _
  congr 1
  funext a
  apply Fin.ext
  exact Pipeline.Window.rect_emb_val_of_index_zero _ _ _ (by revert a; decide +kernel) _
end Any

/-- The first sum: a column's 2048 rows. -/
theorem pay1_apply (v : Vec Ideal S2048x1024 .f32) (i : S1x1024.Idx) :
    k0_pay1 v i = ∑ r : Fin 2048, v (ix2 r (i 1)) := by
  unfold k0_pay1
  pointwise

/-- The second sum: a column's eight rows. -/
theorem pay2_apply (v : Vec Ideal S8x1024 .f32) (i : S1x1024.Idx) :
    k0_pay2 v i = ∑ r : Fin 8, v (ix2 r (i 1)) := by
  unfold k0_pay2
  pointwise

/-- The third sum: a column's four rows, scaled. -/
theorem pay3_apply (v : Vec Ideal S4x1024 .f32) (i : S1x1024.Idx) :
    k0_pay3 v i = (∑ r : Fin 4, v (ix2 r (i 1))) * Ideal.ofBits .f32 0x37800000#32 := by
  unfold k0_pay3
  pointwise

/-- The kernel's scale is one part in 65536. -/
theorem scale_f32 : Ideal.ofBits .f32 0x37800000#32 = ((1 / 65536 : ℝ) : EReal) := by
  simp [Ideal.ofBits, Ideal.ieee, -EReal.coe_mul]; norm_num

/-- The reference's divisor is the number of rows. -/
theorem count_f32 : Ideal.ofBits .f32 0x47800000#32 = ((65536 : ℝ) : EReal) := by
  simp [Ideal.ofBits, Ideal.ieee, -EReal.coe_mul]; norm_num

/-- The reference's result in a column: the sum of its 65536 rows, scaled. -/
theorem meanRow_apply (x : FVec Ideal Cert.ReferenceIdeal.S65536x1024 .f32) (i : S1x1024.Idx) :
    Cert.MeanRef.meanRow x i = (∑ k : Fin 65536, x (ix2 k (i 1))) * ((1 / 65536 : ℝ) : EReal) := by
  unfold Cert.MeanRef.meanRow
  pointwise
  rw [count_f32, Ideal.div_coe (by norm_num)]

/-- The device in line position `w` and plane position `t`, reached from any device. -/
theorem reached : ∀ (c : Dev nD) (w : Fin 4) (t : Fin 8), (peer (peer c (zj w)) (aj t)).val = 8 * w.val + t.val := by
  decide +kernel

/-- A sum over 65536 rows, taken by line position, plane position and row of the device's own block. -/
theorem sum_rows {R : Type} [AddCommMonoid R] (f : Fin 65536 → R) :
    ∑ w : Fin 4, ∑ t : Fin 8, ∑ r : Fin 2048, f ⟨(8 * w.val + t.val) * 2048 + r.val, by omega⟩ = ∑ k : Fin 65536, f k := by
  have h₁ : ∀ g : Fin 32 → R, ∑ w : Fin 4, ∑ t : Fin 8, g ⟨8 * w.val + t.val, by omega⟩ = ∑ d : Fin 32, g d := by
    intro g
    rw [← Fintype.sum_prod_type']
    refine Fintype.sum_equiv (finProdFinEquiv (m := 4) (n := 8)) _ _ fun p => congrArg g (Fin.ext ?_)
    show 8 * p.1.val + p.2.val = p.2.val + 8 * p.1.val
    omega
  refine (h₁ fun d => ∑ r : Fin 2048, f ⟨d.val * 2048 + r.val, by omega⟩).trans ?_
  rw [← Fintype.sum_prod_type']
  refine Fintype.sum_equiv (finProdFinEquiv (m := 32) (n := 2048)) _ _ fun p => congrArg f (Fin.ext ?_)
  show p.1.val * 2048 + p.2.val = p.2.val + 2048 * p.1.val
  omega

section Result
variable (m : (ℓ : Loc nD τ sig) → Buf (Elt Ideal) ℓ)

/-- A device's argument, as an array of extended reals. -/
abbrev rows (d : Dev nD) : S2048x1024.Idx → EReal := m ((d : Thread nD τ).loc main_arg0)

/-- The kernel's result in a column: the sum over the line, the plane and each device's rows, scaled. -/
theorem outAt_apply (c : Dev nD) (i : S1x1024.Idx) :
    outAt m c i = (∑ w : Fin 4, ∑ t : Fin 8, ∑ r : Fin 2048,
          rows m (peer (peer c (zj w)) (aj t)) (ix2 r (i 1)))
        * ((1 / 65536 : ℝ) : EReal) := by
  unfold outAt
  rw [pay3_apply, scale_f32]
  congr 1
  refine Finset.sum_congr rfl fun w _ => ?_
  show plane m (peer c (zj w)) _ = _
  unfold plane
  rw [pay2_apply]
  refine Finset.sum_congr rfl fun t _ => ?_
  show part m (peer (peer c (zj w)) (aj t)) _ = _
  unfold part
  rw [pay1_apply, xstg_eq]
  rfl

/-- When every device holds its block of the rows of `x`, every device's result is the mean the reference computes. -/
theorem outAt_mean (x : FVec Ideal Cert.ReferenceIdeal.S65536x1024 .f32)
    (hT : Layout.Tiles ⟨2, ![2048, 1024]⟩ ⟨2, ![65536, 1024]⟩ 0 32)
    (hx : ∀ c : Dev nD, m ((c : Thread nD τ).loc main_arg0) = Layout.block ⟨2, ![2048, 1024]⟩ ⟨2, ![65536, 1024]⟩ 0 32 c x hT)
    (c : Dev nD) : outAt m c = Cert.MeanRef.meanRow x := by
  funext i
  refine (outAt_apply m c i).trans ?_
  rw [meanRow_apply]
  refine Eq.trans ?_ (congrArg (· * ((1 / 65536 : ℝ) : EReal)) (sum_rows fun k => (x (ix2 k (i 1)) : EReal)))
  congr 1
  refine Finset.sum_congr rfl fun w _ => Finset.sum_congr rfl fun t _ => Finset.sum_congr rfl fun r _ => ?_
  show m _ _ = _
  rw [hx]
  show x _ = x _
  congr 1
  funext a
  apply Fin.ext
  match a with
  | ⟨0, _⟩ =>
    show (peer (peer c (zj w)) (aj t)).val * 2048 + r.val = (8 * w.val + t.val) * 2048 + r.val
    rw [reached]
  | ⟨1, _⟩ => rfl

end Result

end Cert.MeanProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.MeanProof

/-- The kernel as printed has the bodies of the program read over the extended reals, at the same float words. -/
theorem bodies_same : Cert.Kernel.defs₀ (F := Bits) = Cert.KernelIdeal.defs₀ (F := Bits) := by
  unfold Cert.Kernel.defs₀ Cert.KernelIdeal.defs₀
  congr 1
  funext l a
  match l, a with
  | 0, (t, s) => rfl

/-- So their tables of procedures are the same. -/
theorem defs_same : Cert.Kernel.defs (F := Bits) = Cert.KernelIdeal.defs (F := Bits) := by
  unfold Cert.Kernel.defs Cert.KernelIdeal.defs
  rw [bodies_same]
  rfl

/-- The kernel as printed runs, leaves its arguments and every counter as they were: the run is proved at any float
    values, so also at words. -/
theorem frame_kernel : Cert.quiescent_Kernel := by
  intro m ρ _
  rw [defs_same]
  exact (θ_run (Cert.KernelIdeal.defs (F := Bits)) (onTc (τ := Cert.KernelIdeal.τ) (Cert.KernelIdeal.main (F := Bits))) (Cert.MeanProof.s₀ m ρ)).mono
    (fun _ h => ⟨fun c => (h.1 c (0 : Fin 2)).trans (finalA_x (F := Bits) m ρ c), h.2⟩) (run_main (F := Bits) m ρ)

/-- The same over the extended reals. -/
theorem frame_ideal : Cert.quiescent_KernelIdeal := fun m ρ _ =>
  (θ_run Cert.KernelIdeal.defs _ _).mono
    (fun _ h => ⟨fun c => (h.1 c (0 : Fin 2)).trans (finalA_x (F := Ideal) m ρ c), h.2⟩) (run_main (F := Ideal) m ρ)

/-- The reference runs and leaves its argument as it was. -/
theorem frame_reference : Cert.quiescent_ReferenceIdeal := fun m ρ _ =>
  (θ_run Cert.ReferenceIdeal.defs _ _).mono (fun _ h => ⟨fun c => (h.1 c).2, h.2⟩) (Cert.MeanRef.run_ref (F := Ideal) m ρ)

/-- Over the extended reals every device's result is the reference's mean. -/
theorem value : Cert.algebraic_KernelIdeal_ReferenceIdeal := fun m ρ m' ρ' _ hx =>
  ⟨_,
    (θ_run Cert.KernelIdeal.defs _ _).mono
      (fun _ h c => ⟨((h.1 c (1 : Fin 2)).trans (finalA_out (F := Ideal) m ρ c)).trans (outAt_mean m _ _ hx c),
        (h.1 c (0 : Fin 2)).trans (finalA_x (F := Ideal) m ρ c)⟩)
      (run_main (F := Ideal) m ρ),
    (θ_run Cert.ReferenceIdeal.defs _ _).mono (fun _ h => h.1 0) (Cert.MeanRef.run_ref (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
